-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_v79) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v22_1)) (v1 : (c : Dev Cert.MixIdeal.nD) → Buf (Elt Ideal) ((c.tc : Thread Cert.MixIdeal.nD Cert.MixIdeal.τ).loc Cert.MixIdeal.main_v22_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22_1) = v0 c
          ∧ r.2.mem ((c.tc : Thread Cert.MixIdeal.nD Cert.MixIdeal.τ).loc Cert.MixIdeal.main_v22_2) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v50) = v0 c
          ∧ r.2.mem ((c.tc : Thread Cert.MixRefIdeal.nD Cert.MixRefIdeal.τ).loc Cert.MixRefIdeal.main_v52) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
-- ==== Ffn.lean ====
abbrev S16x256x1024 : Shape := ⟨3, ![16, 256, 1024]⟩
abbrev S8x1024x1024 : Shape := ⟨3, ![8, 1024, 1024]⟩
abbrev S16x6144 : Shape := ⟨2, ![16, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S4096x1024 : Shape := ⟨2, ![4096, 1024]⟩
abbrev S8192x1024 : Shape := ⟨2, ![8192, 1024]⟩
abbrev S1024x5632 : Shape := ⟨2, ![1024, 5632]⟩
abbrev S2816x1024 : Shape := ⟨2, ![2816, 1024]⟩
abbrev S512x1024 : Shape := ⟨2, ![512, 1024]⟩
abbrev S8x3072 : Shape := ⟨2, ![8, 3072]⟩
abbrev S2x128x5632 : Shape := ⟨3, ![2, 128, 5632]⟩
abbrev S2x352x1024 : Shape := ⟨3, ![2, 352, 1024]⟩
abbrev S2 : Shape := ⟨1, ![2]⟩
abbrev S1 : Shape := ⟨1, ![1]⟩
abbrev S_ : Shape := ⟨0, ![]⟩
abbrev S1x128x5632 : Shape := ⟨3, ![1, 128, 5632]⟩
abbrev S128x5632 : Shape := ⟨2, ![128, 5632]⟩
abbrev S1x352x1024 : Shape := ⟨3, ![1, 352, 1024]⟩
abbrev S352x1024 : Shape := ⟨2, ![352, 1024]⟩
abbrev S1x3072 : Shape := ⟨2, ![1, 3072]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x6144, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S8192x1024, .f32⟩
  | .hbm, ⟨10, _⟩ => ⟨S1024x5632, .f32⟩
  | .hbm, ⟨11, _⟩ => ⟨S2816x1024, .f32⟩
  | .hbm, ⟨12, _⟩ => ⟨S4096x1024, .f32⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x3072, .f32⟩
  | .local _ .vmem, ⟨5, _⟩ => ⟨S8x3072, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x5632, .bf16⟩
  | .local _ .vmem, ⟨12, _⟩ => ⟨S2816x1024, .bf16⟩
  | .local _ .vmem, ⟨13, _⟩ => ⟨S2x128x5632, .f32⟩
  | .local _ .vmem, ⟨14, _⟩ => ⟨S2x352x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![24], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let arg0 : BitVec 32 := BitVec.ofNat 32 (i 0).val
  let c8_i32_4 : BitVec 32 := 8#32
  let v9 : BitVec 32 := Scalar.subi arg0 c8_i32_4
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c2_i32 : BitVec 32 := 2#32
  let c0_i32_7 : BitVec 32 := 0#32
  let v16 : BitVec 1 := Scalar.cmpi .sgt c2_i32 c0_i32_7
  let v17 : BitVec 32 := Scalar.extui v16
  let c0_i32_8 : BitVec 32 := 0#32
  let v18 : BitVec 1 := Scalar.cmpi .slt c2_i32 c0_i32_8
  let v19 : BitVec 32 := Scalar.extui v18
  let v20 : BitVec 32 := Scalar.subi v17 v19
  let v21 : BitVec 1 := Scalar.cmpi .ne v15 v20
  let v22 : BitVec 32 := Scalar.remsi v9 c2_i32
  let c0_i32_9 : BitVec 32 := 0#32
  let v23 : BitVec 1 := Scalar.cmpi .ne v22 c0_i32_9
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let v27 : Index := Scalar.indexCast v26
  let c0 : Index := 0#32
  ![v27.toNat, 0]
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c8_i32 : BitVec 32 := 8#32
  let v0 : BitVec 1 := Scalar.cmpi .slt arg0 c8_i32
  let c1_i32 : BitVec 32 := 1#32
  let c0_i32 : BitVec 32 := 0#32
  let v1 : BitVec 32 := Scalar.select v0 c1_i32 c0_i32
  let c1_i32_0 : BitVec 32 := 1#32
  let c0_i32_1 : BitVec 32 := 0#32
  ![v1.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16x256x1024 : Shape := ⟨3, ![16, 256, 1024]⟩
abbrev S8x1024x1024 : Shape := ⟨3, ![8, 1024, 1024]⟩
abbrev S16x6144 : Shape := ⟨2, ![16, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x6144 : Shape := ⟨2, ![1, 6144]⟩
abbrev S1024 : Shape := ⟨1, ![1024]⟩
abbrev S1024x5632 : Shape := ⟨2, ![1024, 5632]⟩
abbrev S2816x1024 : Shape := ⟨2, ![2816, 1024]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩
abbrev S4096x1024 : Shape := ⟨2, ![4096, 1024]⟩
abbrev S8192x1024 : Shape := ⟨2, ![8192, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x6144, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1x6144, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x5632, .f32⟩
  | .hbm, ⟨41, _⟩ => ⟨S16x256x2816, .f32⟩
  | .hbm, ⟨42, _⟩ => ⟨S16x256x2816, .f32⟩
  | .hbm, ⟨43, _⟩ => ⟨S16x256x2816, .f32⟩
  | .hbm, ⟨44, _⟩ => ⟨S16x256x2816, .f32⟩
  | .hbm, ⟨45, _⟩ => ⟨S_, .f32⟩
  | .hbm, ⟨46, _⟩ => ⟨S16x256x2816, .f32⟩
  | .hbm, ⟨47, _⟩ => ⟨S16x256x2816, .f32⟩
  | .hbm, ⟨48, _⟩ => ⟨S_, .f32⟩
  | .hbm, ⟨49, _⟩ => ⟨S16x256x2816, .f32⟩
  | .hbm, ⟨50, _⟩ => ⟨S16x256x2816, .f32⟩
  | .hbm, ⟨51, _⟩ => ⟨S16x256x2816, .f32⟩
  | .hbm, ⟨52, _⟩ => ⟨S16x256x2816, .f32⟩
  | .hbm, ⟨53, _⟩ => ⟨S16x256x1024, .f32⟩
  | .hbm, ⟨54, _⟩ => ⟨S16x256x1024, .f32⟩
  | .hbm, ⟨55, _⟩ => ⟨S16x256x1024, .f32⟩
  | .hbm, ⟨56, _⟩ => ⟨S16x256x1024, .f32⟩
  | .hbm, ⟨57, _⟩ => ⟨S8x6144, .f32⟩
  | .hbm, ⟨58, _⟩ => ⟨S1024, .f32⟩
  | .hbm, ⟨59, _⟩ => ⟨S1024x5632, .f32⟩
  | .hbm, ⟨60, _⟩ => ⟨S2816x1024, .f32⟩
  | .hbm, ⟨61, _⟩ => ⟨S8x1x6144, .f32⟩
  | .hbm, ⟨62, _⟩ => ⟨S8x1x1024, .f32⟩
  | .hbm, ⟨63, _⟩ => ⟨S8x1x1024, .f32⟩
  | .hbm, ⟨64, _⟩ => ⟨S8x1x1024, .f32⟩
  | .hbm, ⟨65, _⟩ => ⟨S8x1x1024, .f32⟩
  | .hbm, ⟨66, _⟩ => ⟨S8x1x1024, .f32⟩
  | .hbm, ⟨67, _⟩ => ⟨S8x1x1024, .f32⟩
  | .hbm, ⟨68, _⟩ => ⟨S8x1024x1024, .f32⟩
  | .hbm, ⟨69, _⟩ => ⟨S_, .f32⟩
  | .hbm, ⟨70, _⟩ => ⟨S8x1024, .f32⟩
  | .hbm, ⟨71, _⟩ => ⟨S8x1024x1, .f32⟩
  | .hbm, ⟨72, _⟩ => ⟨S_, .f32⟩
  | .hbm, ⟨73, _⟩ => ⟨S8x1024x1, .f32⟩
  | .hbm, ⟨74, _⟩ => ⟨S8x1024x1, .f32⟩
  | .hbm, ⟨75, _⟩ => ⟨S_, .f32⟩
  | .hbm, ⟨76, _⟩ => ⟨S8x1024x1, .f32⟩
  | .hbm, ⟨77, _⟩ => ⟨S8x1024x1, .f32⟩
  | .hbm, ⟨78, _⟩ => ⟨S8x1024x1, .f32⟩
  | .hbm, ⟨79, _⟩ => ⟨S8x1024x1024, .f32⟩
  | .hbm, ⟨80, _⟩ => ⟨S8x1024x1024, .f32⟩
  | .hbm, ⟨81, _⟩ => ⟨S1x1x1024, .f32⟩
  | .hbm, ⟨82, _⟩ => ⟨S8x1024x1024, .f32⟩
  | .hbm, ⟨83, _⟩ => ⟨S8x1024x1024, .f32⟩
  | .hbm, ⟨84, _⟩ => ⟨S_, .f32⟩
  | .hbm, ⟨85, _⟩ => ⟨S8x1x1024, .f32⟩
  | .hbm, ⟨86, _⟩ => ⟨S8x1x1024, .f32⟩
  | .hbm, ⟨87, _⟩ => ⟨S8x1024x1024, .f32⟩
  | .hbm, ⟨88, _⟩ => ⟨S8x1024x1024, .f32⟩
  | .hbm, ⟨89, _⟩ => ⟨S8x1024x1024, .f32⟩
  | .hbm, ⟨90, _⟩ => ⟨S8x1024x1024, .f32⟩
  | .hbm, ⟨91, _⟩ => ⟨S8x1024x5632, .f32⟩
  | .hbm, ⟨92, _⟩ => ⟨S8x1024x2816, .f32⟩
  | .hbm, ⟨93, _⟩ => ⟨S8x1024x2816, .f32⟩
  | .hbm, ⟨94, _⟩ => ⟨S8x1024x2816, .f32⟩
  | .hbm, ⟨95, _⟩ => ⟨S8x1024x2816, .f32⟩
  | .hbm, ⟨96, _⟩ => ⟨S_, .f32⟩
  | .hbm, ⟨97, _⟩ => ⟨S8x1024x2816, .f32⟩
  | .hbm, ⟨98, _⟩ => ⟨S8x1024x2816, .f32⟩
  | .hbm, ⟨99, _⟩ => ⟨S_, .f32⟩
  | .hbm, ⟨100, _⟩ => ⟨S8x1024x2816, .f32⟩
  | .hbm, ⟨101, _⟩ => ⟨S8x1024x2816, .f32⟩
  | .hbm, ⟨102, _⟩ => ⟨S8x1024x2816, .f32⟩
  | .hbm, ⟨103, _⟩ => ⟨S8x1024x2816, .f32⟩
  | .hbm, ⟨104, _⟩ => ⟨S8x1024x1024, .f32⟩
  | .hbm, ⟨105, _⟩ => ⟨S8x1024x1024, .f32⟩
  | .hbm, ⟨106, _⟩ => ⟨S8x1024x1024, .f32⟩
  | .hbm, ⟨107, _⟩ => ⟨S8x1024x1024, .f32⟩
  | .hbm, ⟨108, _⟩ => ⟨S4096x1024, .f32⟩
  | .hbm, ⟨109, _⟩ => ⟨S8192x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Mix.lean ====
abbrev S16x256x1024 : Shape := ⟨3, ![16, 256, 1024]⟩
abbrev S16x6144 : Shape := ⟨2, ![16, 6144]⟩
abbrev S1x1024 : Shape := ⟨2, ![1, 1024]⟩
abbrev S1x1024x2304 : Shape := ⟨3, ![1, 1024, 2304]⟩
abbrev S1x64 : Shape := ⟨2, ![1, 64]⟩
abbrev S1x3x512 : Shape := ⟨3, ![1, 3, 512]⟩
abbrev S1x512 : Shape := ⟨2, ![1, 512]⟩
abbrev S1x1024x1024 : Shape := ⟨3, ![1, 1024, 1024]⟩
abbrev S256x256 : Shape := ⟨2, ![256, 256]⟩
abbrev S1024 : Shape := ⟨1, ![1024]⟩
abbrev S1024x2304 : Shape := ⟨2, ![1024, 2304]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S3x512 : Shape := ⟨2, ![3, 512]⟩
abbrev S1024x1024 : Shape := ⟨2, ![1024, 1024]⟩
abbrev S4x1024x1024 : Shape := ⟨3, ![4, 1024, 1024]⟩
abbrev S16x1x2x64x256 : Shape := ⟨5, ![16, 1, 2, 64, 256]⟩
abbrev S8x3072 : Shape := ⟨2, ![8, 3072]⟩
abbrev S4x1x2x64x256 : Shape := ⟨5, ![4, 1, 2, 64, 256]⟩
abbrev S8x1024x64 : Shape := ⟨3, ![8, 1024, 64]⟩
abbrev S2x1024x64 : Shape := ⟨3, ![2, 1024, 64]⟩
abbrev S4x2x80x256 : Shape := ⟨4, ![4, 2, 80, 256]⟩
abbrev S1024x512 : Shape := ⟨2, ![1024, 512]⟩
abbrev S1040x512 : Shape := ⟨2, ![1040, 512]⟩
abbrev S256x1024 : Shape := ⟨2, ![256, 1024]⟩
abbrev S2x2x256x1024 : Shape := ⟨4, ![2, 2, 256, 1024]⟩
abbrev S1x3072 : Shape := ⟨2, ![1, 3072]⟩
abbrev S16x256 : Shape := ⟨2, ![16, 256]⟩
abbrev S1x1x16x256 : Shape := ⟨4, ![1, 1, 16, 256]⟩
abbrev S8x512 : Shape := ⟨2, ![8, 512]⟩
abbrev S1x512x1024 : Shape := ⟨3, ![1, 512, 1024]⟩
abbrev S512x1024 : Shape := ⟨2, ![512, 1024]⟩
abbrev S512x1 : Shape := ⟨2, ![512, 1]⟩
abbrev S1024x768 : Shape := ⟨2, ![1024, 768]⟩
abbrev S512x768 : Shape := ⟨2, ![512, 768]⟩
abbrev S512x256 : Shape := ⟨2, ![512, 256]⟩
abbrev S512x640 : Shape := ⟨2, ![512, 640]⟩
abbrev S512x128 : Shape := ⟨2, ![512, 128]⟩
abbrev S256x128 : Shape := ⟨2, ![256, 128]⟩
abbrev S128x256 : Shape := ⟨2, ![128, 256]⟩
abbrev S2x64x256 : Shape := ⟨3, ![2, 64, 256]⟩
abbrev S1x1x2x64x256 : Shape := ⟨5, ![1, 1, 2, 64, 256]⟩
abbrev S512x64 : Shape := ⟨2, ![512, 64]⟩
abbrev S1x512x64 : Shape := ⟨3, ![1, 512, 64]⟩
abbrev S64x256 : Shape := ⟨2, ![64, 256]⟩
abbrev S1x1x64x256 : Shape := ⟨4, ![1, 1, 64, 256]⟩
abbrev S1024x1536 : Shape := ⟨2, ![1024, 1536]⟩
abbrev S512x1536 : Shape := ⟨2, ![512, 1536]⟩
abbrev S512x512 : Shape := ⟨2, ![512, 512]⟩
abbrev S1x1x512 : Shape := ⟨3, ![1, 1, 512]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩
abbrev S1x256x64 : Shape := ⟨3, ![1, 256, 64]⟩
abbrev S256x64 : Shape := ⟨2, ![256, 64]⟩
abbrev S1024x64 : Shape := ⟨2, ![1024, 64]⟩
abbrev S1x1x256x1024 : Shape := ⟨4, ![1, 1, 256, 1024]⟩
abbrev S1x1x80x256 : Shape := ⟨4, ![1, 1, 80, 256]⟩
abbrev S80x256 : Shape := ⟨2, ![80, 256]⟩
abbrev S80x1024 : Shape := ⟨2, ![80, 1024]⟩
abbrev S64x1024 : Shape := ⟨2, ![64, 1024]⟩
abbrev S16x1024 : Shape := ⟨2, ![16, 1024]⟩
abbrev S1x1x16x1024 : Shape := ⟨4, ![1, 1, 16, 1024]⟩
abbrev S528x512 : Shape := ⟨2, ![528, 512]⟩

abbrev nBuf : Space → Nat
  | .hbm => 36
  | .vmem => 25
  | .smem => 0
  | _ => 0

abbrev bufTy : (tb : Table) → Fin (tcTables nBuf tb) → BufTy
  | .hbm, ⟨0, _⟩ => ⟨S16x256x1024, .f32⟩
  | .hbm, ⟨1, _⟩ => ⟨S16x6144, .f32⟩
  | .hbm, ⟨2, _⟩ => ⟨S1x1024, .f32⟩
  | .hbm, ⟨3, _⟩ => ⟨S1x1024x2304, .f32⟩
  | .hbm, ⟨4, _⟩ => ⟨S1x64, .f32⟩
  | .hbm, ⟨5, _⟩ => ⟨S1x64, .f32⟩
  | .hbm, ⟨6, _⟩ => ⟨S1x3x512, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S256x256, .bf16⟩
  | .hbm, ⟨11, _⟩ => ⟨S1024, .f32⟩
  | .hbm, ⟨12, _⟩ => ⟨S1x1024, .f32⟩
  | .hbm, ⟨13, _⟩ => ⟨S1024x2304, .f32⟩
  | .hbm, ⟨14, _⟩ => ⟨S1024x2304, .bf16⟩
  | .hbm, ⟨15, _⟩ => ⟨S64, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S64, .f32⟩
  | .hbm, ⟨20, _⟩ => ⟨S1x64, .f32⟩
  | .hbm, ⟨21, _⟩ => ⟨S2x64, .f32⟩
  | .hbm, ⟨22, _⟩ => ⟨S128, .f32⟩
  | .hbm, ⟨23, _⟩ => ⟨S640, .f32⟩
  | .hbm, ⟨24, _⟩ => ⟨S1x640, .f32⟩
  | .hbm, ⟨25, _⟩ => ⟨S3x512, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1024x1024, .f32⟩
  | .hbm, ⟨31, _⟩ => ⟨S1024x1024, .bf16⟩
  | .hbm, ⟨32, _⟩ => ⟨S4x1024x1024, .f32⟩
  | .hbm, ⟨33, _⟩ => ⟨S4x1024x1024, .f32⟩
  | .hbm, ⟨34, _⟩ => ⟨S16x1x2x64x256, .f32⟩
  | .hbm, ⟨35, _⟩ => ⟨S16x1x2x64x256, .f32⟩
  | .local _ .vmem, ⟨0, _⟩ => ⟨S1x1024x1024, .f32⟩
  | .local _ .vmem, ⟨1, _⟩ => ⟨S1x1024x1024, .f32⟩
  | .local _ .vmem, ⟨2, _⟩ => ⟨S8x3072, .f32⟩
  | .local _ .vmem, ⟨3, _⟩ => ⟨S1x1024, .f32⟩
  | .local _ .vmem, ⟨4, _⟩ => ⟨S1024x2304, .bf16⟩
  | .local _ .vmem, ⟨5, _⟩ => ⟨S256x256, .bf16⟩
  | .local _ .vmem, ⟨6, _⟩ => ⟨S1x640, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S4x1x2x64x256, .f32⟩
  | .local _ .vmem, ⟨14, _⟩ => ⟨S4x1x2x64x256, .f32⟩
  | .local _ .vmem, ⟨15, _⟩ => ⟨S4x1x2x64x256, .f32⟩
  | .local _ .vmem, ⟨16, _⟩ => ⟨S4x1x2x64x256, .f32⟩
  | .local _ .vmem, ⟨17, _⟩ => ⟨S8x1024x64, .bf16⟩
  | .local _ .vmem, ⟨18, _⟩ => ⟨S2x1024x64, .bf16⟩
  | .local _ .vmem, ⟨19, _⟩ => ⟨S4x2x80x256, .bf16⟩
  | .local _ .vmem, ⟨20, _⟩ => ⟨S1024x512, .f32⟩
  | .local _ .vmem, ⟨21, _⟩ => ⟨S1040x512, .f32⟩
  | .local _ .vmem, ⟨22, _⟩ => ⟨S1024x512, .f32⟩
  | .local _ .vmem, ⟨23, _⟩ => ⟨S256x1024, .f32⟩
  | .local _ .vmem, ⟨24, _⟩ => ⟨S2x2x256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![4], ![false]⟩

def k0_mult1 : BitVec 32 :=
  let c0_i32_312 : BitVec 32 := 0#32
  c0_i32_312
def k0_mult2 : BitVec 32 :=
  let c0_i32_328 : BitVec 32 := 0#32
  c0_i32_328
def k0_mult3 : BitVec 32 :=
  let c256_i32_344 : BitVec 32 := 256#32
  c256_i32_344
def k0_mult4 : BitVec 32 :=
  let c0_i32_364 : BitVec 32 := 0#32
  c0_i32_364
def k0_mult5 : BitVec 32 :=
  let c256_i32_371 : BitVec 32 := 256#32
  c256_i32_371
def k0_mult6 : BitVec 32 :=
  let c0_i32_391 : BitVec 32 := 0#32
  c0_i32_391
def k0_mult7 : BitVec 32 :=
  let c2_i32 : BitVec 32 := 2#32
  let c0_i32_397 : BitVec 32 := 0#32
  let v726 : BitVec 32 := Scalar.muli c2_i32 c0_i32_397
  let c1_i32_398 : BitVec 32 := 1#32
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  v729
def k0_off1 (c1_i32_398 : BitVec 32) : Fin 3 → Nat :=
  let c0_401 : Index := 0#32
  let c2_i32 : BitVec 32 := 2#32
  let c0_i32_397 : BitVec 32 := 0#32
  let v726 : BitVec 32 := Scalar.muli c2_i32 c0_i32_397
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  let v730 : BitVec 32 := v729
  let v731 : Index := Scalar.indexCast v730
  let c0_402 : Index := 0#32
  ![0, v731.toNat, 0]
def k0_off2 (c1_i32_398 : BitVec 32) : Fin 3 → Nat :=
  let c1_403 : Index := 1#32
  let c2_i32 : BitVec 32 := 2#32
  let c0_i32_397 : BitVec 32 := 0#32
  let v726 : BitVec 32 := Scalar.muli c2_i32 c0_i32_397
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  let v730 : BitVec 32 := v729
  let v734 : Index := Scalar.indexCast v730
  let c0_404 : Index := 0#32
  ![1, v734.toNat, 0]
def k0_off3 (c1_i32_398 : BitVec 32) : Fin 3 → Nat :=
  let c2_405 : Index := 2#32
  let c2_i32 : BitVec 32 := 2#32
  let c0_i32_397 : BitVec 32 := 0#32
  let v726 : BitVec 32 := Scalar.muli c2_i32 c0_i32_397
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  let v730 : BitVec 32 := v729
  let v737 : Index := Scalar.indexCast v730
  let c0_406 : Index := 0#32
  ![2, v737.toNat, 0]
def k0_off4 (c1_i32_398 : BitVec 32) : Fin 3 → Nat :=
  let c3_407 : Index := 3#32
  let c2_i32 : BitVec 32 := 2#32
  let c0_i32_397 : BitVec 32 := 0#32
  let v726 : BitVec 32 := Scalar.muli c2_i32 c0_i32_397
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  let v730 : BitVec 32 := v729
  let v740 : Index := Scalar.indexCast v730
  let c0_408 : Index := 0#32
  ![3, v740.toNat, 0]
def k0_off5 (c1_i32_398 : BitVec 32) : Fin 3 → Nat :=
  let c0_409 : Index := 0#32
  let c2_i32 : BitVec 32 := 2#32
  let c0_i32_397 : BitVec 32 := 0#32
  let v726 : BitVec 32 := Scalar.muli c2_i32 c0_i32_397
  let v727 : BitVec 32 := Scalar.addi v726 c1_i32_398
  let c1_i32_399 : BitVec 32 := 1#32
  let v728 : BitVec 32 := Scalar.addi v727 c1_i32_399
  let c256_i32_400 : BitVec 32 := 256#32
  let v729 : BitVec 32 := Scalar.muli v728 c256_i32_400
  let v730 : BitVec 32 := v729
  let v744 : Index := Scalar.indexCast v730
  let c0_410 : Index := 0#32
  ![0, v744.toNat, 0]
def k0_mult8 : BitVec 32 :=
  let c2_i32 : BitVec 32 := 2#32
  let c0_i32_397 : BitVec 32 := 0#32
  let v726 : BitVec 32 := Scalar.muli c2_i32 c0_i32_397
  let c1_i32_398 : BitVec 32 := 1#32
  let v727 : BitVec 32 := Scalar.addi v726 c1_i32_398
  let c256_i32_420 : BitVec 32 := 256#32
  let v755 : BitVec 32 := Scalar.muli v727 c256_i32_420
  v755
def k0_off6 (c1_i32_398 : BitVec 32) : Fin 4 → Nat :=
  let c2_i32 : BitVec 32 := 2#32
  let c0_i32_397 : BitVec 32 := 0#32
  let v726 : BitVec 32 := Scalar.muli c2_i32 c0_i32_397
  let v727 : BitVec 32 := Scalar.addi v726 c1_i32_398
  let v757 : Index := Scalar.indexCast v727
  let c0_421 : Index := 0#32
  let c0_422 : Index := 0#32
  let c0_423 : Index := 0#32
  ![v757.toNat, 0, 0, 0]
def k0_off7 (c1_i32_398 : BitVec 32) : Fin 2 → Nat :=
  let c2_i32 : BitVec 32 := 2#32
  let c0_i32_397 : BitVec 32 := 0#32
  let v726 : BitVec 32 := Scalar.muli c2_i32 c0_i32_397
  let v727 : BitVec 32 := Scalar.addi v726 c1_i32_398
  let c256_i32_420 : BitVec 32 := 256#32
  let v755 : BitVec 32 := Scalar.muli v727 c256_i32_420
  let v756 : BitVec 32 := v755
  let v769 : Index := Scalar.indexCast v756
  let c0_425 : Index := 0#32
  ![v769.toNat, 0]
def k0_off8 (c1_i32_398 : BitVec 32) : Fin 2 → Nat :=
  let c2_i32 : BitVec 32 := 2#32
  let c0_i32_397 : BitVec 32 := 0#32
  let v726 : BitVec 32 := Scalar.muli c2_i32 c0_i32_397
  let v727 : BitVec 32 := Scalar.addi v726 c1_i32_398
  let c256_i32_420 : BitVec 32 := 256#32
  let v755 : BitVec 32 := Scalar.muli v727 c256_i32_420
  let v756 : BitVec 32 := v755
  let v777 : Index := Scalar.indexCast v756
  let c128_426 : Index := 128#32
  ![v777.toNat, 128]
def k0_mult9 : BitVec 32 :=
  let c2_i32 : BitVec 32 := 2#32
  let c0_i32_397 : BitVec 32 := 0#32
  let v726 : BitVec 32 := Scalar.muli c2_i32 c0_i32_397
  let c1_i32_398 : BitVec 32 := 1#32
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  v782
def k0_off9 (c1_i32_398 : BitVec 32) : Fin 3 → Nat :=
  let c4_429 : Index := 4#32
  let c2_i32 : BitVec 32 := 2#32
  let c0_i32_397 : BitVec 32 := 0#32
  let v726 : BitVec 32 := Scalar.muli c2_i32 c0_i32_397
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  let v783 : BitVec 32 := v782
  let v784 : Index := Scalar.indexCast v783
  let c0_430 : Index := 0#32
  ![4, v784.toNat, 0]
def k0_off10 (c1_i32_398 : BitVec 32) : Fin 3 → Nat :=
  let c5_431 : Index := 5#32
  let c2_i32 : BitVec 32 := 2#32
  let c0_i32_397 : BitVec 32 := 0#32
  let v726 : BitVec 32 := Scalar.muli c2_i32 c0_i32_397
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  let v783 : BitVec 32 := v782
  let v787 : Index := Scalar.indexCast v783
  let c0_432 : Index := 0#32
  ![5, v787.toNat, 0]
def k0_off11 (c1_i32_398 : BitVec 32) : Fin 3 → Nat :=
  let c6_433 : Index := 6#32
  let c2_i32 : BitVec 32 := 2#32
  let c0_i32_397 : BitVec 32 := 0#32
  let v726 : BitVec 32 := Scalar.muli c2_i32 c0_i32_397
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  let v783 : BitVec 32 := v782
  let v790 : Index := Scalar.indexCast v783
  let c0_434 : Index := 0#32
  ![6, v790.toNat, 0]
def k0_off12 (c1_i32_398 : BitVec 32) : Fin 3 → Nat :=
  let c7_435 : Index := 7#32
  let c2_i32 : BitVec 32 := 2#32
  let c0_i32_397 : BitVec 32 := 0#32
  let v726 : BitVec 32 := Scalar.muli c2_i32 c0_i32_397
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  let v783 : BitVec 32 := v782
  let v793 : Index := Scalar.indexCast v783
  let c0_436 : Index := 0#32
  ![7, v793.toNat, 0]
def k0_off13 (c1_i32_398 : BitVec 32) : Fin 3 → Nat :=
  let c1_437 : Index := 1#32
  let c2_i32 : BitVec 32 := 2#32
  let c0_i32_397 : BitVec 32 := 0#32
  let v726 : BitVec 32 := Scalar.muli c2_i32 c0_i32_397
  let v727 : BitVec 32 := Scalar.addi v726 c1_i32_398
  let c1_i32_427 : BitVec 32 := 1#32
  let v781 : BitVec 32 := Scalar.addi v727 c1_i32_427
  let c256_i32_428 : BitVec 32 := 256#32
  let v782 : BitVec 32 := Scalar.muli v781 c256_i32_428
  let v783 : BitVec 32 := v782
  let v797 : Index := Scalar.indexCast v783
  let c0_438 : Index := 0#32
  ![1, v797.toNat, 0]
def k0_mult10 : BitVec 32 :=
  let c2_i32 : BitVec 32 := 2#32
  let c0_i32_397 : BitVec 32 := 0#32
  let v726 : BitVec 32 := Scalar.muli c2_i32 c0_i32_397
  let c1_i32_398 : BitVec 32 := 1#32
  let v727 : BitVec 32 := Scalar.addi v726 c1_i32_398
  let c256_i32_448 : BitVec 32 := 256#32
  let v808 : BitVec 32 := Scalar.muli v727 c256_i32_448
  v808
def k0_off14 (c1_i32_398 : BitVec 32) : Fin 4 → Nat :=
  let c2_i32 : BitVec 32 := 2#32
  let c0_i32_397 : BitVec 32 := 0#32
  let v726 : BitVec 32 := Scalar.muli c2_i32 c0_i32_397
  let v727 : BitVec 32 := Scalar.addi v726 c1_i32_398
  let v810 : Index := Scalar.indexCast v727
  let c1_449 : Index := 1#32
  let c0_450 : Index := 0#32
  let c0_451 : Index := 0#32
  ![v810.toNat, 1, 0, 0]
def k0_off15 (c1_i32_398 : BitVec 32) : Fin 2 → Nat :=
  let c2_i32 : BitVec 32 := 2#32
  let c0_i32_397 : BitVec 32 := 0#32
  let v726 : BitVec 32 := Scalar.muli c2_i32 c0_i32_397
  let v727 : BitVec 32 := Scalar.addi v726 c1_i32_398
  let c256_i32_448 : BitVec 32 := 256#32
  let v808 : BitVec 32 := Scalar.muli v727 c256_i32_448
  let v809 : BitVec 32 := v808
  let v822 : Index := Scalar.indexCast v809
  let c256_453 : Index := 256#32
  ![v822.toNat, 256]
def k0_off16 (c1_i32_398 : BitVec 32) : Fin 2 → Nat :=
  let c2_i32 : BitVec 32 := 2#32
  let c0_i32_397 : BitVec 32 := 0#32
  let v726 : BitVec 32 := Scalar.muli c2_i32 c0_i32_397
  let v727 : BitVec 32 := Scalar.addi v726 c1_i32_398
  let c256_i32_448 : BitVec 32 := 256#32
  let v808 : BitVec 32 := Scalar.muli v727 c256_i32_448
  let v809 : BitVec 32 := v808
  let v830 : Index := Scalar.indexCast v809
  let c384_454 : Index := 384#32
  ![v830.toNat, 384]
def k0_mult11 : BitVec 32 :=
  let c2_i32_455 : BitVec 32 := 2#32
  let c0_i32_397 : BitVec 32 := 0#32
  let v834 : BitVec 32 := Scalar.muli c2_i32_455 c0_i32_397
  let c2_i32_456 : BitVec 32 := 2#32
  let v835 : BitVec 32 := Scalar.addi v834 c2_i32_456
  let c1_i32_457 : BitVec 32 := 1#32
  let v836 : BitVec 32 := Scalar.addi v835 c1_i32_457
  let c256_i32_458 : BitVec 32 := 256#32
  let v837 : BitVec 32 := Scalar.muli v836 c256_i32_458
  v837
def k0_mult12 : BitVec 32 :=
  let c2_i32_455 : BitVec 32 := 2#32
  let c0_i32_397 : BitVec 32 := 0#32
  let v834 : BitVec 32 := Scalar.muli c2_i32_455 c0_i32_397
  let c2_i32_456 : BitVec 32 := 2#32
  let v835 : BitVec 32 := Scalar.addi v834 c2_i32_456
  let c256_i32_478 : BitVec 32 := 256#32
  let v863 : BitVec 32 := Scalar.muli v835 c256_i32_478
  v863
def k0_mult13 : BitVec 32 :=
  let c2_i32_455 : BitVec 32 := 2#32
  let c0_i32_397 : BitVec 32 := 0#32
  let v834 : BitVec 32 := Scalar.muli c2_i32_455 c0_i32_397
  let c2_i32_456 : BitVec 32 := 2#32
  let v835 : BitVec 32 := Scalar.addi v834 c2_i32_456
  let c1_i32_485 : BitVec 32 := 1#32
  let v889 : BitVec 32 := Scalar.addi v835 c1_i32_485
  let c256_i32_486 : BitVec 32 := 256#32
  let v890 : BitVec 32 := Scalar.muli v889 c256_i32_486
  v890
def k0_mult14 : BitVec 32 :=
  let c2_i32_455 : BitVec 32 := 2#32
  let c0_i32_397 : BitVec 32 := 0#32
  let v834 : BitVec 32 := Scalar.muli c2_i32_455 c0_i32_397
  let c2_i32_456 : BitVec 32 := 2#32
  let v835 : BitVec 32 := Scalar.addi v834 c2_i32_456
  let c256_i32_506 : BitVec 32 := 256#32
  let v916 : BitVec 32 := Scalar.muli v835 c256_i32_506
  v916
def k0_mult15 : BitVec 32 :=
  let c768_i32 : BitVec 32 := 768#32
  c768_i32
def k0_mult16 : BitVec 32 :=
  let c768_i32_529 : BitVec 32 := 768#32
  c768_i32_529
@[reducible] def k0_t1_loop : Scf.Loop 32 :=
  let c0_i32_312 : BitVec 32 := 0#32
  let c4_i32 : BitVec 32 := 4#32
  let v582 : BitVec 32 := Scalar.addi c0_i32_312 c4_i32
  let c1_i32_313 : BitVec 32 := 1#32
  ⟨c0_i32_312, v582, c1_i32_313⟩
def k0_mult17 (k0_t1 : Fin k0_t1_loop.trips) : BitVec 32 :=
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  v583
def k0_off17 (k0_t1 : Fin k0_t1_loop.trips) : Fin 3 → Nat :=
  let c0_316 : Index := 0#32
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  let v584 : BitVec 32 := v583
  let v585 : Index := Scalar.indexCast v584
  let c0_317 : Index := 0#32
  ![0, v585.toNat, 0]
def k0_off18 (k0_t1 : Fin k0_t1_loop.trips) : Fin 3 → Nat :=
  let c1_318 : Index := 1#32
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  let v584 : BitVec 32 := v583
  let v588 : Index := Scalar.indexCast v584
  let c0_319 : Index := 0#32
  ![1, v588.toNat, 0]
def k0_off19 (k0_t1 : Fin k0_t1_loop.trips) : Fin 3 → Nat :=
  let c2_320 : Index := 2#32
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  let v584 : BitVec 32 := v583
  let v591 : Index := Scalar.indexCast v584
  let c0_321 : Index := 0#32
  ![2, v591.toNat, 0]
def k0_off20 (k0_t1 : Fin k0_t1_loop.trips) : Fin 3 → Nat :=
  let c3_322 : Index := 3#32
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  let v584 : BitVec 32 := v583
  let v594 : Index := Scalar.indexCast v584
  let c0_323 : Index := 0#32
  ![3, v594.toNat, 0]
def k0_off21 (k0_t1 : Fin k0_t1_loop.trips) : Fin 3 → Nat :=
  let c0_324 : Index := 0#32
  let c0_i32_312 : BitVec 32 := 0#32
  let c1_i32_313 : BitVec 32 := 1#32
  let arg22 : BitVec 32 := Scf.iv c0_i32_312 c1_i32_313 k0_t1
  let c256_i32_315 : BitVec 32 := 256#32
  let v583 : BitVec 32 := Scalar.muli arg22 c256_i32_315
  let v584 : BitVec 32 := v583
  let v598 : Index := Scalar.indexCast v584
  let c0_325 : Index := 0#32
  ![0, v598.toNat, 0]
def k0_mult18 (k0_t1 : Fin k0_t1_loop.trips) : BitVec 32 :=
  let c0_i32_312 : BitVec 32 := 0#32
  let c1_i32_313 : BitVec 32 := 1#32
  let arg22 : BitVec 32 := Scf.iv c0_i32_312 c1_i32_313 k0_t1
  let c256_i32_416 : BitVec 32 := 256#32
  let v737 : BitVec 32 := Scalar.muli arg22 c256_i32_416
  v737
def k0_off22 (k0_t1 : Fin k0_t1_loop.trips) : Fin 4 → Nat :=
  let c0_i32_312 : BitVec 32 := 0#32
  let c1_i32_313 : BitVec 32 := 1#32
  let arg22 : BitVec 32 := Scf.iv c0_i32_312 c1_i32_313 k0_t1
  let v739 : Index := Scalar.indexCast arg22
  let c0_417 : Index := 0#32
  let c0_418 : Index := 0#32
  let c0_419 : Index := 0#32
  ![v739.toNat, 0, 0, 0]
def k0_off23 (k0_t1 : Fin k0_t1_loop.trips) : Fin 2 → Nat :=
  let c0_i32_312 : BitVec 32 := 0#32
  let c1_i32_313 : BitVec 32 := 1#32
  let arg22 : BitVec 32 := Scf.iv c0_i32_312 c1_i32_313 k0_t1
  let c256_i32_416 : BitVec 32 := 256#32
  let v737 : BitVec 32 := Scalar.muli arg22 c256_i32_416
  let v738 : BitVec 32 := v737
  let v751 : Index := Scalar.indexCast v738
  let c0_421 : Index := 0#32
  ![v751.toNat, 0]
def k0_off24 (k0_t1 : Fin k0_t1_loop.trips) : Fin 2 → Nat :=
  let c0_i32_312 : BitVec 32 := 0#32
  let c1_i32_313 : BitVec 32 := 1#32
  let arg22 : BitVec 32 := Scf.iv c0_i32_312 c1_i32_313 k0_t1
  let c256_i32_416 : BitVec 32 := 256#32
  let v737 : BitVec 32 := Scalar.muli arg22 c256_i32_416
  let v738 : BitVec 32 := v737
  let v759 : Index := Scalar.indexCast v738
  let c128_422 : Index := 128#32
  ![v759.toNat, 128]
def k0_mult19 (k0_t1 : Fin k0_t1_loop.trips) : BitVec 32 :=
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  v763
def k0_off25 (k0_t1 : Fin k0_t1_loop.trips) : Fin 3 → Nat :=
  let c4_424 : Index := 4#32
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  let v764 : BitVec 32 := v763
  let v765 : Index := Scalar.indexCast v764
  let c0_425 : Index := 0#32
  ![4, v765.toNat, 0]
def k0_off26 (k0_t1 : Fin k0_t1_loop.trips) : Fin 3 → Nat :=
  let c5_426 : Index := 5#32
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  let v764 : BitVec 32 := v763
  let v768 : Index := Scalar.indexCast v764
  let c0_427 : Index := 0#32
  ![5, v768.toNat, 0]
def k0_off27 (k0_t1 : Fin k0_t1_loop.trips) : Fin 3 → Nat :=
  let c6_428 : Index := 6#32
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  let v764 : BitVec 32 := v763
  let v771 : Index := Scalar.indexCast v764
  let c0_429 : Index := 0#32
  ![6, v771.toNat, 0]
def k0_off28 (k0_t1 : Fin k0_t1_loop.trips) : Fin 3 → Nat :=
  let c7_430 : Index := 7#32
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  let v764 : BitVec 32 := v763
  let v774 : Index := Scalar.indexCast v764
  let c0_431 : Index := 0#32
  ![7, v774.toNat, 0]
def k0_off29 (k0_t1 : Fin k0_t1_loop.trips) : Fin 3 → Nat :=
  let c1_432 : Index := 1#32
  let c0_i32_312 : BitVec 32 := 0#32
  let c1_i32_313 : BitVec 32 := 1#32
  let arg22 : BitVec 32 := Scf.iv c0_i32_312 c1_i32_313 k0_t1
  let c256_i32_423 : BitVec 32 := 256#32
  let v763 : BitVec 32 := Scalar.muli arg22 c256_i32_423
  let v764 : BitVec 32 := v763
  let v778 : Index := Scalar.indexCast v764
  let c0_433 : Index := 0#32
  ![1, v778.toNat, 0]
def k0_mult20 (k0_t1 : Fin k0_t1_loop.trips) : BitVec 32 :=
  let c0_i32_312 : BitVec 32 := 0#32
  let c1_i32_313 : BitVec 32 := 1#32
  let arg22 : BitVec 32 := Scf.iv c0_i32_312 c1_i32_313 k0_t1
  let c256_i32_538 : BitVec 32 := 256#32
  let v917 : BitVec 32 := Scalar.muli arg22 c256_i32_538
  v917
def k0_off30 (k0_t1 : Fin k0_t1_loop.trips) : Fin 4 → Nat :=
  let c0_i32_312 : BitVec 32 := 0#32
  let c1_i32_313 : BitVec 32 := 1#32
  let arg22 : BitVec 32 := Scf.iv c0_i32_312 c1_i32_313 k0_t1
  let v919 : Index := Scalar.indexCast arg22
  let c1_539 : Index := 1#32
  let c0_540 : Index := 0#32
  let c0_541 : Index := 0#32
  ![v919.toNat, 1, 0, 0]
def k0_off31 (k0_t1 : Fin k0_t1_loop.trips) : Fin 2 → Nat :=
  let c0_i32_312 : BitVec 32 := 0#32
  let c1_i32_313 : BitVec 32 := 1#32
  let arg22 : BitVec 32 := Scf.iv c0_i32_312 c1_i32_313 k0_t1
  let c256_i32_538 : BitVec 32 := 256#32
  let v917 : BitVec 32 := Scalar.muli arg22 c256_i32_538
  let v918 : BitVec 32 := v917
  let v931 : Index := Scalar.indexCast v918
  let c256 : Index := 256#32
  ![v931.toNat, 256]
def k0_off32 (k0_t1 : Fin k0_t1_loop.trips) : Fin 2 → Nat :=
  let c0_i32_312 : BitVec 32 := 0#32
  let c1_i32_313 : BitVec 32 := 1#32
  let arg22 : BitVec 32 := Scf.iv c0_i32_312 c1_i32_313 k0_t1
  let c256_i32_538 : BitVec 32 := 256#32
  let v917 : BitVec 32 := Scalar.muli arg22 c256_i32_538
  let v918 : BitVec 32 := v917
  let v939 : Index := Scalar.indexCast v918
  let c384 : Index := 384#32
  ![v939.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x2x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x2x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S16x256x1024 : Shape := ⟨3, ![16, 256, 1024]⟩
abbrev S16x6144 : Shape := ⟨2, ![16, 6144]⟩
abbrev S1x1024 : Shape := ⟨2, ![1, 1024]⟩
abbrev S1x1024x2304 : Shape := ⟨3, ![1, 1024, 2304]⟩
abbrev S1x64 : Shape := ⟨2, ![1, 64]⟩
abbrev S1x3x512 : Shape := ⟨3, ![1, 3, 512]⟩
abbrev S1x512 : Shape := ⟨2, ![1, 512]⟩
abbrev S1x1024x1024 : Shape := ⟨3, ![1, 1024, 1024]⟩
abbrev S1x6144 : Shape := ⟨2, ![1, 6144]⟩
abbrev S1x1x6144 : Shape := ⟨3, ![1, 1, 6144]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1024x2304 : Shape := ⟨2, ![1024, 2304]⟩
abbrev S16x256x2304 : Shape := ⟨3, ![16, 256, 2304]⟩
abbrev S16x256x256 : Shape := ⟨3, ![16, 256, 256]⟩
abbrev S16x256x128 : Shape := ⟨3, ![16, 256, 128]⟩
abbrev S16x256x2x64 : Shape := ⟨4, ![16, 256, 2, 64]⟩
abbrev S64 : Shape := ⟨1, ![64]⟩
abbrev S16x256x2 : Shape := ⟨3, ![16, 256, 2]⟩
abbrev S16x256x2x1 : Shape := ⟨4, ![16, 256, 2, 1]⟩
abbrev S1x1x1x64 : Shape := ⟨4, ![1, 1, 1, 64]⟩
abbrev S16x2x64x256 : Shape := ⟨4, ![16, 2, 64, 256]⟩
abbrev S16x1x2x64x256 : Shape := ⟨5, ![16, 1, 2, 64, 256]⟩

abbrev nBuf : Space → Nat
  | .hbm => 70
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x6144, .f32⟩
  | .hbm, ⟨2, _⟩ => ⟨S1x1024, .f32⟩
  | .hbm, ⟨3, _⟩ => ⟨S1x1024x2304, .f32⟩
  | .hbm, ⟨4, _⟩ => ⟨S1x64, .f32⟩
  | .hbm, ⟨5, _⟩ => ⟨S1x64, .f32⟩
  | .hbm, ⟨6, _⟩ => ⟨S1x3x512, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S1x6144, .f32⟩
  | .hbm, ⟨11, _⟩ => ⟨S1x1x6144, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1024, .f32⟩
  | .hbm, ⟨19, _⟩ => ⟨S16x256x1024, .f32⟩
  | .hbm, ⟨20, _⟩ => ⟨S_, .f32⟩
  | .hbm, ⟨21, _⟩ => ⟨S16x256, .f32⟩
  | .hbm, ⟨22, _⟩ => ⟨S16x256x1, .f32⟩
  | .hbm, ⟨23, _⟩ => ⟨S_, .f32⟩
  | .hbm, ⟨24, _⟩ => ⟨S16x256x1, .f32⟩
  | .hbm, ⟨25, _⟩ => ⟨S16x256x1, .f32⟩
  | .hbm, ⟨26, _⟩ => ⟨S_, .f32⟩
  | .hbm, ⟨27, _⟩ => ⟨S16x256x1, .f32⟩
  | .hbm, ⟨28, _⟩ => ⟨S16x256x1, .f32⟩
  | .hbm, ⟨29, _⟩ => ⟨S16x256x1, .f32⟩
  | .hbm, ⟨30, _⟩ => ⟨S16x256x1024, .f32⟩
  | .hbm, ⟨31, _⟩ => ⟨S16x256x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S16x256x1024, .f32⟩
  | .hbm, ⟨42, _⟩ => ⟨S1024x2304, .f32⟩
  | .hbm, ⟨43, _⟩ => ⟨S16x256x2304, .f32⟩
  | .hbm, ⟨44, _⟩ => ⟨S16x256x256, .f32⟩
  | .hbm, ⟨45, _⟩ => ⟨S16x256x128, .f32⟩
  | .hbm, ⟨46, _⟩ => ⟨S16x256x128, .f32⟩
  | .hbm, ⟨47, _⟩ => ⟨S16x256x2x64, .f32⟩
  | .hbm, ⟨48, _⟩ => ⟨S64, .f32⟩
  | .hbm, ⟨49, _⟩ => ⟨S16x256x2x64, .f32⟩
  | .hbm, ⟨50, _⟩ => ⟨S_, .f32⟩
  | .hbm, ⟨51, _⟩ => ⟨S16x256x2, .f32⟩
  | .hbm, ⟨52, _⟩ => ⟨S16x256x2x1, .f32⟩
  | .hbm, ⟨53, _⟩ => ⟨S_, .f32⟩
  | .hbm, ⟨54, _⟩ => ⟨S16x256x2x1, .f32⟩
  | .hbm, ⟨55, _⟩ => ⟨S16x256x2x1, .f32⟩
  | .hbm, ⟨56, _⟩ => ⟨S_, .f32⟩
  | .hbm, ⟨57, _⟩ => ⟨S16x256x2x1, .f32⟩
  | .hbm, ⟨58, _⟩ => ⟨S16x256x2x1, .f32⟩
  | .hbm, ⟨59, _⟩ => ⟨S16x256x2x1, .f32⟩
  | .hbm, ⟨60, _⟩ => ⟨S16x256x2x64, .f32⟩
  | .hbm, ⟨61, _⟩ => ⟨S16x256x2x64, .f32⟩
  | .hbm, ⟨62, _⟩ => ⟨S1x1x1x64, .f32⟩
  | .hbm, ⟨63, _⟩ => ⟨S16x256x2x64, .f32⟩
  | .hbm, ⟨64, _⟩ => ⟨S16x256x2x64, .f32⟩
  | .hbm, ⟨65, _⟩ => ⟨S16x256x2x64, .f32⟩
  | .hbm, ⟨66, _⟩ => ⟨S16x2x64x256, .f32⟩
  | .hbm, ⟨67, _⟩ => ⟨S16x1x2x64x256, .f32⟩
  | .hbm, ⟨68, _⟩ => ⟨S16x2x64x256, .f32⟩
  | .hbm, ⟨69, _⟩ => ⟨S16x1x2x64x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.FfnBlock.lean ====
module

public import proofs.«01_k».proof.Proof.Gen.FfnIdeal.Frame
public import proofs.«01_k».proof.Proof.Gen.FfnIdeal.Skeleton

@[expose] public section

set_option maxRecDepth 16384

noncomputable section

namespace Cert.FfnIdeal.Val

open Cert.FfnIdeal Cert.FfnIdeal.Gen
open Idealize.ShloMosaic Idealize.ShloMosaic.TcCoe

/-! ## Reading a buffer that was filled in pieces -/

section Views

variable {sig' : RefSig} {κ : Kind} {sp : Space} {s : Shape} {e : EltTy} {Val : EltTy → Type}

/-- The part of a vector that a load at the box `B` reads. -/
def ld (x : s.Idx → Val e) (B : LoadRect s) : B.shape.Idx → Val e := fun j => x (B.idx j)

/-- If every piece written agrees with one target vector, an index under some piece reads the target. -/
theorem read_writes_of_agree (v : View sig' κ sp s e) (f : v.ty.Contents Val) (T : s.Idx → Val e) (y : s.Idx) :
    ∀ L : List (View.Piece Val s e), (∀ p ∈ L, ∀ x : p.1.shape.Idx, p.2 x = T (p.1.emb x)) →
      (∃ p ∈ L, y ∈ p.1.set) → v.read Val (v.writes Val f L) y = T y
  | [], _, h => by obtain ⟨_, hm, _⟩ := h; exact absurd hm List.not_mem_nil
  | p :: L, hL, h => by
    by_cases hy : y ∈ p.1.set
    · rw [← Rect.map_emb_univ] at hy
      obtain ⟨x, -, rfl⟩ := Finset.mem_map.mp hy
      have := View.read_writes_cons_emb v f p.1 p.2 L x
      exact this.trans (hL p List.mem_cons_self x)
    · rw [View.writes_cons, View.read_slice_write_of_not_mem p.1 _ _ _ (by rw [Rect.map_emb_univ]; exact hy)]
      refine read_writes_of_agree v f T y L (fun q hq => hL q (List.mem_cons_of_mem _ hq)) ?_
      obtain ⟨q, hq, hqy⟩ := h
      rcases List.mem_cons.mp hq with rfl | hq
      · exact absurd hqy hy
      · exact ⟨q, hq, hqy⟩

/-- A read through one view of a buffer that was written through a disjoint view is unchanged. -/
theorem read_write_disjoint {s' : Shape} (v : View sig' κ sp s e) (r r' : Rect s) (hd : Disjoint r.set r'.set)
    (h : s'.numel = r.shape.numel) (h' : s'.numel = r'.shape.numel)
    (f : v.ty.Contents Val) (w : s'.Idx → Val e) :
    ((v.slice r).reshape s' h).read Val (((v.slice r').reshape s' h').write Val f w Finset.univ)
      = ((v.slice r).reshape s' h).read Val f := by
  funext x
  rw [View.read_apply, View.read_apply]
  congr 1
  refine View.write_of_not_mem _ _ _ ?_
  rw [View.setOn_univ, View.set_reshape, View.set_slice]
  intro hm
  obtain ⟨z, hz, hzx⟩ := Finset.mem_map.mp hm
  have hx : r.emb (Shape.reshapeEquiv h x) ∈ r.set := by
    rw [← Rect.map_emb_univ]; exact Finset.mem_map_of_mem _ (Finset.mem_univ _)
  have e1 : z = r.emb (Shape.reshapeEquiv h x) := v.emb.injective hzx
  exact Finset.disjoint_left.mp hd hx (e1 ▸ hz)

end Views

variable {F : FTy → Type} [FloatOps F]

/-! ## What one grid point computes -/

/-- A tile of the prompt's rows: the modulation row `m`, the tile `x`, the norm's weights `n` and the two weight
matrices give the tile's result. -/
def tileA (m : Vec F S1x3072 .f32) (x : Vec F S512x1024 .f32) (n : Vec F S1x1024 .f32) (wg : Vec F S1024x5632 .bf16)
    (wd : Vec F S2816x1024 .bf16) : Vec F S512x1024 .f32 :=
  k0_pay3 (k0_pay19 m) (k0_pay20 x) (k0_pay21 m x n)
    (k0_pay22 m x n
      (ld wg (Rect.unit (s := S1024x5632) ![0, 0] S1024x1024.size inb_S1024x5632_S1024x1024_0_0).toLoadRect)
      (ld wg (Rect.unit (s := S1024x5632) ![0, 2816] S1024x1024.size inb_S1024x5632_S1024x1024_0_2816).toLoadRect)
      (ld wd (Rect.unit (s := S2816x1024) ![0, 0] S1024x1024.size inb_S2816x1024_S1024x1024_0_0).toLoadRect))
    (ld wg (Rect.unit (s := S1024x5632) ![0, 1024] S1024x1024.size inb_S1024x5632_S1024x1024_0_1024).toLoadRect)
    (constant S512x1024 .f32 0x00000000#32)
    (ld wg (Rect.unit (s := S1024x5632) ![0, 3840] S1024x1024.size inb_S1024x5632_S1024x1024_0_3840).toLoadRect)
    (ld wd (Rect.unit (s := S2816x1024) ![1024, 0] S1024x1024.size inb_S2816x1024_S1024x1024_1024_0).toLoadRect)
    (ld wg (Rect.unit (s := S1024x5632) ![0, 2048] S1024x768.size inb_S1024x5632_S1024x768_0_2048).toLoadRect)
    (ld wg (Rect.unit (s := S1024x5632) ![0, 4864] S1024x768.size inb_S1024x5632_S1024x768_0_4864).toLoadRect)
    (ld wd (Rect.unit (s := S2816x1024) ![2048, 0] S768x1024.size inb_S2816x1024_S768x1024_2048_0).toLoadRect)

/-- A tile of the sample's rows, as its own branch of the kernel computes it. -/
def tileB (m : Vec F S1x3072 .f32) (x : Vec F S512x1024 .f32) (n : Vec F S1x1024 .f32) (wg : Vec F S1024x5632 .bf16)
    (wd : Vec F S2816x1024 .bf16) : Vec F S512x1024 .f32 :=
  k0_pay4 (k0_pay24 m) (k0_pay25 x)
    (k0_pay28 (k0_pay23 m) (k0_pay26 m x n)
      (ld wg (Rect.unit (s := S1024x5632) ![0, 0] S1024x1024.size inb_S1024x5632_S1024x1024_0_0).toLoadRect)
      (ld wg (Rect.unit (s := S1024x5632) ![0, 2816] S1024x1024.size inb_S1024x5632_S1024x1024_0_2816).toLoadRect)
      (ld wd (Rect.unit (s := S2816x1024) ![0, 0] S1024x1024.size inb_S2816x1024_S1024x1024_0_0).toLoadRect)
      (ld wg (Rect.unit (s := S1024x5632) ![0, 1024] S1024x1024.size inb_S1024x5632_S1024x1024_0_1024).toLoadRect)
      (ld wg (Rect.unit (s := S1024x5632) ![0, 3840] S1024x1024.size inb_S1024x5632_S1024x1024_0_3840).toLoadRect)
      (ld wd (Rect.unit (s := S2816x1024) ![1024, 0] S1024x1024.size inb_S2816x1024_S1024x1024_1024_0).toLoadRect))
    (k0_pay29 (k0_pay23 m) (k0_pay26 m x n)
      (ld wg (Rect.unit (s := S1024x5632) ![0, 2048] S1024x768.size inb_S1024x5632_S1024x768_0_2048).toLoadRect)
      (ld wg (Rect.unit (s := S1024x5632) ![0, 4864] S1024x768.size inb_S1024x5632_S1024x768_0_4864).toLoadRect))
    (ld wd (Rect.unit (s := S2816x1024) ![2048, 0] S768x1024.size inb_S2816x1024_S768x1024_2048_0).toLoadRect)
    (constant S512x1024 .f32 0x00000000#32)

/-- The modulation row of the prompt's tiles: the first row of the staged block. -/
def modA (x2 : Vec F S8x3072 .f32) : Vec F S1x3072 .f32 :=
  ld x2 (Rect.unit (s := S8x3072) ![0, 0] S1x3072.size inb_S8x3072_S1x3072_0_0).toLoadRect

/-- The modulation row of a sample tile: the row the grid point's offset names. -/
def modB (i : grid0.Coords) (h : k0_cond3 i = 1#1) (x2 : Vec F S8x3072 .f32) : Vec F S1x3072 .f32 :=
  ld x2 (Rect.unit (s := S8x3072) (k0_off1 i) S1x3072.size (k0_off1_inb i h)).toLoadRect

/-- The gate and up projections' weights as the scratch keeps them. -/
def wguOf (w : Vec F S1024x5632 .f32) : Vec F S1024x5632 .bf16 := truncf .bf16 w bitsLt_bf16_f32

/-- The down projection's weights as the scratch keeps them. -/
def wdOf (w : Vec F S2816x1024 .f32) : Vec F S2816x1024 .bf16 := truncf .bf16 w bitsLt_bf16_f32

end Cert.FfnIdeal.Val

end
-- ==== Proof.FfnStage.lean ====
module

public import proofs.«01_k».proof.Proof.FfnBlock
public import Idealize.ShloMosaic.Lib.Pipeline.Value

@[expose] public section

set_option maxRecDepth 16384

noncomputable section

namespace Cert.FfnIdeal.Val

open Cert.FfnIdeal Cert.FfnIdeal.Gen
open Idealize.ShloMosaic Idealize.ShloMosaic.TcCoe

variable {F : FTy → Type} [FloatOps F]

/-! ## The two-slot staging buffer of the gate and up weights -/

/-- One slot of the staging buffer as the copies address it. -/
abbrev slotG0 (M : Memref sig .tc .vmem S2x128x5632 .f32) : View sig .tc .vmem S128x5632 .f32 :=
  ((M.slice (Rect.unit (s := S2x128x5632) ![0, 0, 0] S1x128x5632.size inb_S2x128x5632_S1x128x5632_0_0_0) (fun _ => rfl)).squeeze
    S128x5632 squeezes_S1x128x5632_S128x5632).view

/-- The other slot. -/
abbrev slotG1 (M : Memref sig .tc .vmem S2x128x5632 .f32) : View sig .tc .vmem S128x5632 .f32 :=
  ((M.slice (Rect.unit (s := S2x128x5632) ![1, 0, 0] S1x128x5632.size inb_S2x128x5632_S1x128x5632_1_0_0) (fun _ => rfl)).squeeze
    S128x5632 squeezes_S1x128x5632_S128x5632).view

theorem slotsG_disjoint : Disjoint
    (Rect.unit (s := S2x128x5632) ![0, 0, 0] S1x128x5632.size inb_S2x128x5632_S1x128x5632_0_0_0).set
    (Rect.unit (s := S2x128x5632) ![1, 0, 0] S1x128x5632.size inb_S2x128x5632_S1x128x5632_1_0_0).set := by
  rw [Finset.disjoint_left]
  intro y h0 h1
  have a0 := (Rect.mem_set_unit.mp h0) 0
  have a1 := (Rect.mem_set_unit.mp h1) 0
  have b0 : (y 0).val < 0 + 1 := a0.2
  have b1 : 1 ≤ (y 0).val := a1.1
  omega

/-- A load of slot 0 that follows a copy into it, with a later copy into slot 1, gives the rows copied. -/
theorem stageG0 (M : Memref sig .tc .vmem S2x128x5632 .f32) (f : M.view.ty.Contents (Elt F)) (w w' : Vec F S128x5632 .f32) :
    shapeCast S128x5632 (M.view.readAt (Elt F)
      (Rect.unit (s := S2x128x5632) ![0, 0, 0] S1x128x5632.size inb_S2x128x5632_S1x128x5632_0_0_0).toLoadRect
      ((slotG1 M).write (Elt F) ((slotG0 M).write (Elt F) f w Finset.univ) w' Finset.univ)) shapeCasts_S1x128x5632_S128x5632 = w := by
  refine (Memref.read_squeeze_slice M _ (fun _ => rfl) squeezes_S1x128x5632_S128x5632 shapeCasts_S1x128x5632_S128x5632 _).symm.trans ?_
  refine (read_write_disjoint M.view _ _ slotsG_disjoint _ _ _ _).trans ?_
  exact View.read_write_univ (v := slotG0 M) _ _

/-- A load of slot 1 that follows a copy into it, with a later copy into slot 0, gives the rows copied. -/
theorem stageG1 (M : Memref sig .tc .vmem S2x128x5632 .f32) (f : M.view.ty.Contents (Elt F)) (w w' : Vec F S128x5632 .f32) :
    shapeCast S128x5632 (M.view.readAt (Elt F)
      (Rect.unit (s := S2x128x5632) ![1, 0, 0] S1x128x5632.size inb_S2x128x5632_S1x128x5632_1_0_0).toLoadRect
      ((slotG0 M).write (Elt F) ((slotG1 M).write (Elt F) f w Finset.univ) w' Finset.univ)) shapeCasts_S1x128x5632_S128x5632 = w := by
  refine (Memref.read_squeeze_slice M _ (fun _ => rfl) squeezes_S1x128x5632_S128x5632 shapeCasts_S1x128x5632_S128x5632 _).symm.trans ?_
  refine (read_write_disjoint M.view _ _ slotsG_disjoint.symm _ _ _ _).trans ?_
  exact View.read_write_univ (v := slotG1 M) _ _

/-- A load of slot 1 right after a copy into it gives the rows copied. -/
theorem stageGlast (M : Memref sig .tc .vmem S2x128x5632 .f32) (f : M.view.ty.Contents (Elt F)) (w : Vec F S128x5632 .f32) :
    shapeCast S128x5632 (M.view.readAt (Elt F)
      (Rect.unit (s := S2x128x5632) ![1, 0, 0] S1x128x5632.size inb_S2x128x5632_S1x128x5632_1_0_0).toLoadRect
      ((slotG1 M).write (Elt F) f w Finset.univ)) shapeCasts_S1x128x5632_S128x5632 = w :=
  (Memref.read_squeeze_slice M _ (fun _ => rfl) squeezes_S1x128x5632_S128x5632 shapeCasts_S1x128x5632_S128x5632 _).symm.trans
    (View.read_write_univ (v := slotG1 M) _ _)

/-- The cast of one chunk of rows is the chunk of the cast matrix. -/
theorem payG (v : Vec F S1x128x5632 .f32) (w : Vec F S128x5632 .f32)
    (h : shapeCast S128x5632 v shapeCasts_S1x128x5632_S128x5632 = w) :
    shapeCast S128x5632 (truncf .bf16 (shapeCast S128x5632 v shapeCasts_S1x128x5632_S128x5632) bitsLt_bf16_f32)
      shapeCasts_S128x5632_S128x5632 = truncf .bf16 w bitsLt_bf16_f32 := by
  rw [h, shapeCast_self]

/-- Eight chunks of 128 rows, each the chunk of one matrix, leave that matrix. -/
theorem fillG (v : View sig .tc .vmem S1024x5632 .bf16) (f : v.ty.Contents (Elt F)) (W : Vec F S1024x5632 .bf16)
    (p0 p1 p2 p3 p4 p5 p6 p7 : Vec F S128x5632 .bf16)
    (h0 : ∀ x, p0 x = W ((Rect.unit (s := S1024x5632) ![0, 0] S128x5632.size inb_S1024x5632_S128x5632_0_0).emb x))
    (h1 : ∀ x, p1 x = W ((Rect.unit (s := S1024x5632) ![128, 0] S128x5632.size inb_S1024x5632_S128x5632_128_0).emb x))
    (h2 : ∀ x, p2 x = W ((Rect.unit (s := S1024x5632) ![256, 0] S128x5632.size inb_S1024x5632_S128x5632_256_0).emb x))
    (h3 : ∀ x, p3 x = W ((Rect.unit (s := S1024x5632) ![384, 0] S128x5632.size inb_S1024x5632_S128x5632_384_0).emb x))
    (h4 : ∀ x, p4 x = W ((Rect.unit (s := S1024x5632) ![512, 0] S128x5632.size inb_S1024x5632_S128x5632_512_0).emb x))
    (h5 : ∀ x, p5 x = W ((Rect.unit (s := S1024x5632) ![640, 0] S128x5632.size inb_S1024x5632_S128x5632_640_0).emb x))
    (h6 : ∀ x, p6 x = W ((Rect.unit (s := S1024x5632) ![768, 0] S128x5632.size inb_S1024x5632_S128x5632_768_0).emb x))
    (h7 : ∀ x, p7 x = W ((Rect.unit (s := S1024x5632) ![896, 0] S128x5632.size inb_S1024x5632_S128x5632_896_0).emb x)) :
    v.read (Elt F) (v.writes (Elt F) f
      [⟨Rect.unit (s := S1024x5632) ![896, 0] S128x5632.size inb_S1024x5632_S128x5632_896_0, p7⟩,
       ⟨Rect.unit (s := S1024x5632) ![768, 0] S128x5632.size inb_S1024x5632_S128x5632_768_0, p6⟩,
       ⟨Rect.unit (s := S1024x5632) ![640, 0] S128x5632.size inb_S1024x5632_S128x5632_640_0, p5⟩,
       ⟨Rect.unit (s := S1024x5632) ![512, 0] S128x5632.size inb_S1024x5632_S128x5632_512_0, p4⟩,
       ⟨Rect.unit (s := S1024x5632) ![384, 0] S128x5632.size inb_S1024x5632_S128x5632_384_0, p3⟩,
       ⟨Rect.unit (s := S1024x5632) ![256, 0] S128x5632.size inb_S1024x5632_S128x5632_256_0, p2⟩,
       ⟨Rect.unit (s := S1024x5632) ![128, 0] S128x5632.size inb_S1024x5632_S128x5632_128_0, p1⟩,
       ⟨Rect.unit (s := S1024x5632) ![0, 0] S128x5632.size inb_S1024x5632_S128x5632_0_0, p0⟩]) = W := by
  funext y
  refine read_writes_of_agree v f W y _ ?_ ?_
  · intro p hp
    simp only [List.mem_cons, List.not_mem_nil, or_false] at hp
    rcases hp with rfl | rfl | rfl | rfl | rfl | rfl | rfl | rfl <;> assumption
  · have hy0 : (y 0).val < 1024 := (y 0).isLt
    have hy1 : (y 1).val < 5632 := (y 1).isLt
    have key : ∀ (o : ℕ) (inb : ∀ a : Fin 2, (![o, 0] : Fin 2 → ℕ) a + S128x5632.size a ≤ S1024x5632.size a),
        o ≤ (y 0).val → (y 0).val < o + 128 → y ∈ (Rect.unit (s := S1024x5632) ![o, 0] S128x5632.size inb).set := by
      intro o inb h1 h2
      rw [Rect.mem_set_unit]
      exact Fin.forall_fin_two.mpr ⟨⟨h1, h2⟩, ⟨Nat.zero_le _, by show (y 1).val < 0 + 5632; omega⟩⟩
    rcases (by omega : (y 0).val < 128 ∨ (128 ≤ (y 0).val ∧ (y 0).val < 256) ∨ (256 ≤ (y 0).val ∧ (y 0).val < 384)
      ∨ (384 ≤ (y 0).val ∧ (y 0).val < 512) ∨ (512 ≤ (y 0).val ∧ (y 0).val < 640) ∨ (640 ≤ (y 0).val ∧ (y 0).val < 768)
      ∨ (768 ≤ (y 0).val ∧ (y 0).val < 896) ∨ (896 ≤ (y 0).val ∧ (y 0).val < 1024)) with h | h | h | h | h | h | h | h
    · exact ⟨_, .tail _ (.tail _ (.tail _ (.tail _ (.tail _ (.tail _ (.tail _ (.head _))))))), key 0 inb_S1024x5632_S128x5632_0_0 (by omega) (by omega)⟩
    · exact ⟨_, .tail _ (.tail _ (.tail _ (.tail _ (.tail _ (.tail _ (.head _)))))), key 128 inb_S1024x5632_S128x5632_128_0 (by omega) (by omega)⟩
    · exact ⟨_, .tail _ (.tail _ (.tail _ (.tail _ (.tail _ (.head _))))), key 256 inb_S1024x5632_S128x5632_256_0 (by omega) (by omega)⟩
    · exact ⟨_, .tail _ (.tail _ (.tail _ (.tail _ (.head _)))), key 384 inb_S1024x5632_S128x5632_384_0 (by omega) (by omega)⟩
    · exact ⟨_, .tail _ (.tail _ (.tail _ (.head _))), key 512 inb_S1024x5632_S128x5632_512_0 (by omega) (by omega)⟩
    · exact ⟨_, .tail _ (.tail _ (.head _)), key 640 inb_S1024x5632_S128x5632_640_0 (by omega) (by omega)⟩
    · exact ⟨_, .tail _ (.head _), key 768 inb_S1024x5632_S128x5632_768_0 (by omega) (by omega)⟩
    · exact ⟨_, .head _, key 896 inb_S1024x5632_S128x5632_896_0 (by omega) (by omega)⟩

/-! ## The two-slot staging buffer of the down weights -/

/-- One slot of the staging buffer as the copies address it. -/
abbrev slotD0 (M : Memref sig .tc .vmem S2x352x1024 .f32) : View sig .tc .vmem S352x1024 .f32 :=
  ((M.slice (Rect.unit (s := S2x352x1024) ![0, 0, 0] S1x352x1024.size inb_S2x352x1024_S1x352x1024_0_0_0) (fun _ => rfl)).squeeze
    S352x1024 squeezes_S1x352x1024_S352x1024).view

/-- The other slot. -/
abbrev slotD1 (M : Memref sig .tc .vmem S2x352x1024 .f32) : View sig .tc .vmem S352x1024 .f32 :=
  ((M.slice (Rect.unit (s := S2x352x1024) ![1, 0, 0] S1x352x1024.size inb_S2x352x1024_S1x352x1024_1_0_0) (fun _ => rfl)).squeeze
    S352x1024 squeezes_S1x352x1024_S352x1024).view

theorem slotsD_disjoint : Disjoint
    (Rect.unit (s := S2x352x1024) ![0, 0, 0] S1x352x1024.size inb_S2x352x1024_S1x352x1024_0_0_0).set
    (Rect.unit (s := S2x352x1024) ![1, 0, 0] S1x352x1024.size inb_S2x352x1024_S1x352x1024_1_0_0).set := by
  rw [Finset.disjoint_left]
  intro y h0 h1
  have a0 := (Rect.mem_set_unit.mp h0) 0
  have a1 := (Rect.mem_set_unit.mp h1) 0
  have b0 : (y 0).val < 0 + 1 := a0.2
  have b1 : 1 ≤ (y 0).val := a1.1
  omega

/-- A load of slot 0 that follows a copy into it, with a later copy into slot 1, gives the rows copied. -/
theorem stageD0 (M : Memref sig .tc .vmem S2x352x1024 .f32) (f : M.view.ty.Contents (Elt F)) (w w' : Vec F S352x1024 .f32) :
    shapeCast S352x1024 (M.view.readAt (Elt F)
      (Rect.unit (s := S2x352x1024) ![0, 0, 0] S1x352x1024.size inb_S2x352x1024_S1x352x1024_0_0_0).toLoadRect
      ((slotD1 M).write (Elt F) ((slotD0 M).write (Elt F) f w Finset.univ) w' Finset.univ)) shapeCasts_S1x352x1024_S352x1024 = w := by
  refine (Memref.read_squeeze_slice M _ (fun _ => rfl) squeezes_S1x352x1024_S352x1024 shapeCasts_S1x352x1024_S352x1024 _).symm.trans ?_
  refine (read_write_disjoint M.view _ _ slotsD_disjoint _ _ _ _).trans ?_
  exact View.read_write_univ (v := slotD0 M) _ _

/-- A load of slot 1 that follows a copy into it, with a later copy into slot 0, gives the rows copied. -/
theorem stageD1 (M : Memref sig .tc .vmem S2x352x1024 .f32) (f : M.view.ty.Contents (Elt F)) (w w' : Vec F S352x1024 .f32) :
    shapeCast S352x1024 (M.view.readAt (Elt F)
      (Rect.unit (s := S2x352x1024) ![1, 0, 0] S1x352x1024.size inb_S2x352x1024_S1x352x1024_1_0_0).toLoadRect
      ((slotD0 M).write (Elt F) ((slotD1 M).write (Elt F) f w Finset.univ) w' Finset.univ)) shapeCasts_S1x352x1024_S352x1024 = w := by
  refine (Memref.read_squeeze_slice M _ (fun _ => rfl) squeezes_S1x352x1024_S352x1024 shapeCasts_S1x352x1024_S352x1024 _).symm.trans ?_
  refine (read_write_disjoint M.view _ _ slotsD_disjoint.symm _ _ _ _).trans ?_
  exact View.read_write_univ (v := slotD1 M) _ _

/-- A load of slot 1 right after a copy into it gives the rows copied. -/
theorem stageDlast (M : Memref sig .tc .vmem S2x352x1024 .f32) (f : M.view.ty.Contents (Elt F)) (w : Vec F S352x1024 .f32) :
    shapeCast S352x1024 (M.view.readAt (Elt F)
      (Rect.unit (s := S2x352x1024) ![1, 0, 0] S1x352x1024.size inb_S2x352x1024_S1x352x1024_1_0_0).toLoadRect
      ((slotD1 M).write (Elt F) f w Finset.univ)) shapeCasts_S1x352x1024_S352x1024 = w :=
  (Memref.read_squeeze_slice M _ (fun _ => rfl) squeezes_S1x352x1024_S352x1024 shapeCasts_S1x352x1024_S352x1024 _).symm.trans
    (View.read_write_univ (v := slotD1 M) _ _)

/-- The cast of one chunk of rows is the chunk of the cast matrix. -/
theorem payD (v : Vec F S1x352x1024 .f32) (w : Vec F S352x1024 .f32)
    (h : shapeCast S352x1024 v shapeCasts_S1x352x1024_S352x1024 = w) :
    shapeCast S352x1024 (truncf .bf16 (shapeCast S352x1024 v shapeCasts_S1x352x1024_S352x1024) bitsLt_bf16_f32)
      shapeCasts_S352x1024_S352x1024 = truncf .bf16 w bitsLt_bf16_f32 := by
  rw [h, shapeCast_self]

/-- Eight chunks of 352 rows, each the chunk of one matrix, leave that matrix. -/
theorem fillD (v : View sig .tc .vmem S2816x1024 .bf16) (f : v.ty.Contents (Elt F)) (W : Vec F S2816x1024 .bf16)
    (p0 p1 p2 p3 p4 p5 p6 p7 : Vec F S352x1024 .bf16)
    (h0 : ∀ x, p0 x = W ((Rect.unit (s := S2816x1024) ![0, 0] S352x1024.size inb_S2816x1024_S352x1024_0_0).emb x))
    (h1 : ∀ x, p1 x = W ((Rect.unit (s := S2816x1024) ![352, 0] S352x1024.size inb_S2816x1024_S352x1024_352_0).emb x))
    (h2 : ∀ x, p2 x = W ((Rect.unit (s := S2816x1024) ![704, 0] S352x1024.size inb_S2816x1024_S352x1024_704_0).emb x))
    (h3 : ∀ x, p3 x = W ((Rect.unit (s := S2816x1024) ![1056, 0] S352x1024.size inb_S2816x1024_S352x1024_1056_0).emb x))
    (h4 : ∀ x, p4 x = W ((Rect.unit (s := S2816x1024) ![1408, 0] S352x1024.size inb_S2816x1024_S352x1024_1408_0).emb x))
    (h5 : ∀ x, p5 x = W ((Rect.unit (s := S2816x1024) ![1760, 0] S352x1024.size inb_S2816x1024_S352x1024_1760_0).emb x))
    (h6 : ∀ x, p6 x = W ((Rect.unit (s := S2816x1024) ![2112, 0] S352x1024.size inb_S2816x1024_S352x1024_2112_0).emb x))
    (h7 : ∀ x, p7 x = W ((Rect.unit (s := S2816x1024) ![2464, 0] S352x1024.size inb_S2816x1024_S352x1024_2464_0).emb x)) :
    v.read (Elt F) (v.writes (Elt F) f
      [⟨Rect.unit (s := S2816x1024) ![2464, 0] S352x1024.size inb_S2816x1024_S352x1024_2464_0, p7⟩,
       ⟨Rect.unit (s := S2816x1024) ![2112, 0] S352x1024.size inb_S2816x1024_S352x1024_2112_0, p6⟩,
       ⟨Rect.unit (s := S2816x1024) ![1760, 0] S352x1024.size inb_S2816x1024_S352x1024_1760_0, p5⟩,
       ⟨Rect.unit (s := S2816x1024) ![1408, 0] S352x1024.size inb_S2816x1024_S352x1024_1408_0, p4⟩,
       ⟨Rect.unit (s := S2816x1024) ![1056, 0] S352x1024.size inb_S2816x1024_S352x1024_1056_0, p3⟩,
       ⟨Rect.unit (s := S2816x1024) ![704, 0] S352x1024.size inb_S2816x1024_S352x1024_704_0, p2⟩,
       ⟨Rect.unit (s := S2816x1024) ![352, 0] S352x1024.size inb_S2816x1024_S352x1024_352_0, p1⟩,
       ⟨Rect.unit (s := S2816x1024) ![0, 0] S352x1024.size inb_S2816x1024_S352x1024_0_0, p0⟩]) = W := by
  funext y
  refine read_writes_of_agree v f W y _ ?_ ?_
  · intro p hp
    simp only [List.mem_cons, List.not_mem_nil, or_false] at hp
    rcases hp with rfl | rfl | rfl | rfl | rfl | rfl | rfl | rfl <;> assumption
  · have hy0 : (y 0).val < 2816 := (y 0).isLt
    have hy1 : (y 1).val < 1024 := (y 1).isLt
    have key : ∀ (o : ℕ) (inb : ∀ a : Fin 2, (![o, 0] : Fin 2 → ℕ) a + S352x1024.size a ≤ S2816x1024.size a),
        o ≤ (y 0).val → (y 0).val < o + 352 → y ∈ (Rect.unit (s := S2816x1024) ![o, 0] S352x1024.size inb).set := by
      intro o inb h1 h2
      rw [Rect.mem_set_unit]
      exact Fin.forall_fin_two.mpr ⟨⟨h1, h2⟩, ⟨Nat.zero_le _, by show (y 1).val < 0 + 1024; omega⟩⟩
    rcases (by omega : (y 0).val < 352 ∨ (352 ≤ (y 0).val ∧ (y 0).val < 704) ∨ (704 ≤ (y 0).val ∧ (y 0).val < 1056)
      ∨ (1056 ≤ (y 0).val ∧ (y 0).val < 1408) ∨ (1408 ≤ (y 0).val ∧ (y 0).val < 1760) ∨ (1760 ≤ (y 0).val ∧ (y 0).val < 2112)
      ∨ (2112 ≤ (y 0).val ∧ (y 0).val < 2464) ∨ (2464 ≤ (y 0).val ∧ (y 0).val < 2816)) with h | h | h | h | h | h | h | h
    · exact ⟨_, .tail _ (.tail _ (.tail _ (.tail _ (.tail _ (.tail _ (.tail _ (.head _))))))), key 0 inb_S2816x1024_S352x1024_0_0 (by omega) (by omega)⟩
    · exact ⟨_, .tail _ (.tail _ (.tail _ (.tail _ (.tail _ (.tail _ (.head _)))))), key 352 inb_S2816x1024_S352x1024_352_0 (by omega) (by omega)⟩
    · exact ⟨_, .tail _ (.tail _ (.tail _ (.tail _ (.tail _ (.head _))))), key 704 inb_S2816x1024_S352x1024_704_0 (by omega) (by omega)⟩
    · exact ⟨_, .tail _ (.tail _ (.tail _ (.tail _ (.head _)))), key 1056 inb_S2816x1024_S352x1024_1056_0 (by omega) (by omega)⟩
    · exact ⟨_, .tail _ (.tail _ (.tail _ (.head _))), key 1408 inb_S2816x1024_S352x1024_1408_0 (by omega) (by omega)⟩
    · exact ⟨_, .tail _ (.tail _ (.head _)), key 1760 inb_S2816x1024_S352x1024_1760_0 (by omega) (by omega)⟩
    · exact ⟨_, .tail _ (.head _), key 2112 inb_S2816x1024_S352x1024_2112_0 (by omega) (by omega)⟩
    · exact ⟨_, .head _, key 2464 inb_S2816x1024_S352x1024_2464_0 (by omega) (by omega)⟩

end Cert.FfnIdeal.Val

end
-- ==== Proof.FfnRunA.lean ====
module

public import proofs.«01_k».proof.Proof.FfnStage
public import Idealize.ShloMosaic.Lib.WholeRead
public import Idealize.ShloMosaic.Lib.VecWindow

@[expose] public section

set_option maxRecDepth 16384

noncomputable section

namespace Cert.FfnIdeal.Val

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
abbrev cond0_2 (i : grid0.Coords) : Prop := k0_cond3 i = 1#1

abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S2x128x5632 .f32 := Memref.whole cc0_scratch2
abbrev scM0_3 : Memref sig .tc .vmem S2x352x1024 .f32 := Memref.whole cc0_scratch3
abbrev hbM0_0 : Memref sig .tc .hbm S1024x5632 .f32 := Memref.whole main_v4
abbrev hbM0_1 : Memref sig .tc .hbm S2816x1024 .f32 := Memref.whole main_v5
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

set_option maxHeartbeats 2000000 in set_option sl_exec.dmaWindow true in set_option sl_exec.dmaWindowSet true in
theorem kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x3072 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S2x128x5632 .f32) (harg11 : arg11.IsWhole) (arg12 : Memref sig .tc .vmem S2x352x1024 .f32) (harg12 : arg12.IsWhole) (hc0 : cond0_0 i) (hc1 : cond0_1 i) (hc2 : ¬cond0_2 i)
    (x0 : Vec F S512x1024 .f32) (x1 : Vec F S512x1024 .f32) (x2 : Vec F S8x3072 .f32) (x3 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (tileA (modA x2) x0 x3 (wguOf (hbM0_0.view.read (Elt F) fh0)) (wdOf (hbM0_1.view.read (Elt F) fh1))) ∗ (∃ d, owns (c : Thread nD τ) arg8 fullShare d) ∗ owns (c : Thread nD τ) arg9 fullShare (wguOf (hbM0_0.view.read (Elt F) fh0)) ∗ owns (c : Thread nD τ) arg10 fullShare (wdOf (hbM0_1.view.read (Elt F) fh1)) ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 arg3 harg3 arg4 harg4 (Memref.whole main_v4) (Memref.isWhole_whole _) (Memref.whole main_v5) (Memref.isWhole_whole _) arg7 harg7 arg8 harg8 arg9 harg9 arg10 harg10 arg11 harg11 arg12 harg12 cc0_scratch4) K := by
    intro W K
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, ⟨%ds3, %fs3, -, HS3⟩, Hq0, Hq1, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    have eG : ∀ f, View.read (Elt F) arg9.view (arg9.view.writes (Elt F) f (kernelRun0_A.sl.HS0_8 c arg11 fh0 fs2))
        = wguOf (hbM0_0.view.read (Elt F) fh0) := fun f =>
      fillG arg9.view f (wguOf (hbM0_0.view.read (Elt F) fh0)) _ _ _ _ _ _ _ _
        (fun x => congrFun (payG _ _ (stageG0 arg11 _ _ _)) x) (fun x => congrFun (payG _ _ (stageG1 arg11 _ _ _)) x)
        (fun x => congrFun (payG _ _ (stageG0 arg11 _ _ _)) x) (fun x => congrFun (payG _ _ (stageG1 arg11 _ _ _)) x)
        (fun x => congrFun (payG _ _ (stageG0 arg11 _ _ _)) x) (fun x => congrFun (payG _ _ (stageG1 arg11 _ _ _)) x)
        (fun x => congrFun (payG _ _ (stageG0 arg11 _ _ _)) x) (fun x => congrFun (payG _ _ (stageGlast arg11 _ _)) x)
    have eD : ∀ f, View.read (Elt F) arg10.view (arg10.view.writes (Elt F) f (kernelRun0_A.sl.HS1_8 c arg12 fh1 fs3))
        = wdOf (hbM0_1.view.read (Elt F) fh1) := fun f =>
      fillD arg10.view f (wdOf (hbM0_1.view.read (Elt F) fh1)) _ _ _ _ _ _ _ _
        (fun x => congrFun (payD _ _ (stageD0 arg12 _ _ _)) x) (fun x => congrFun (payD _ _ (stageD1 arg12 _ _ _)) x)
        (fun x => congrFun (payD _ _ (stageD0 arg12 _ _ _)) x) (fun x => congrFun (payD _ _ (stageD1 arg12 _ _ _)) x)
        (fun x => congrFun (payD _ _ (stageD0 arg12 _ _ _)) x) (fun x => congrFun (payD _ _ (stageD1 arg12 _ _ _)) x)
        (fun x => congrFun (payD _ _ (stageD0 arg12 _ _ _)) x) (fun x => congrFun (payD _ _ (stageDlast arg12 _ _)) x)
    have em : View.readAt (Elt F) arg3.view (Rect.unit (s := S8x3072) ![0, 0] S1x3072.size inb_S8x3072_S1x3072_0_0).toLoadRect
        (harg3.unread x2) = modA x2 := funext fun j => harg3.readAt_unread x2 _ j
    have ex : View.readAt (Elt F) arg1.view (Rect.unit (s := S512x1024) ![0, 0] S512x1024.size inb_S512x1024_S512x1024_0_0).toLoadRect
        (harg1.unread x0) = x0 := (View.readAt_full _ _ _).trans (harg1.read_unread x0)
    have en : View.readAt (Elt F) arg4.view (Rect.unit (s := S1x1024) ![0, 0] S1x1024.size inb_S1x1024_S1x1024_0_0).toLoadRect
        (harg4.unread x3) = x3 := (View.readAt_full _ _ _).trans (harg4.read_unread x3)
    have gG : ∀ B : LoadRect S1024x5632, arg9.view.readCov (kernelRun0_A.sl.HS0_8 c arg11 fh0 fs2) B
        = ld (wguOf (hbM0_0.view.read (Elt F) fh0)) B := fun B => funext fun j => congrFun (eG _) (B.idx j)
    have gD : ∀ B : LoadRect S2816x1024, arg10.view.readCov (kernelRun0_A.sl.HS1_8 c arg12 fh1 fs3) B
        = ld (wdOf (hbM0_1.view.read (Elt F) fh1)) B := fun B => funext fun j => congrFun (eD _) (B.idx j)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full arg7.view _ _ _ _).trans ?_
      unfold kernelRun0_A.sl.r kernelRun0_A.sl.r_1 kernelRun0_A.sl.r_2 kernelRun0_A.sl.r_3 kernelRun0_A.sl.v36 kernelRun0_A.sl.v38
        kernelRun0_A.sl.v44 kernelRun0_A.sl.v46 kernelRun0_A.sl.v48 kernelRun0_A.sl.v54 kernelRun0_A.sl.v57 kernelRun0_A.sl.v59
        kernelRun0_A.sl.v65
      rw [em, ex, en]
      simp only [gG, gD]
      rfl
    isplitl [H5]
    · iexists _, _; isplitr; swap; · iexact H5
      ipureintro; rfl
    isplitl [HS0]
    · iexists _; isplitr; swap; · iexact HS0
      ipureintro; exact eG _
    isplitl [HS1]
    · iexists _; isplitr; swap; · iexact HS1
      ipureintro; exact eD _
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    iexists _; iexact HW

end Cert.FfnIdeal.Val

end
-- ==== Proof.FfnRunB.lean ====
module

public import proofs.«01_k».proof.Proof.FfnRunA
public import Idealize.ShloMosaic.Lib.WholeRead
public import Idealize.ShloMosaic.Lib.VecWindow

@[expose] public section

set_option maxRecDepth 16384

noncomputable section

namespace Cert.FfnIdeal.Val

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in set_option sl_exec.dmaWindow true in set_option sl_exec.dmaWindowSet true in
theorem kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x3072 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S2x128x5632 .f32) (harg11 : arg11.IsWhole) (arg12 : Memref sig .tc .vmem S2x352x1024 .f32) (harg12 : arg12.IsWhole) (hc0 : ¬cond0_0 i) (hc1 : cond0_1 i) (hc2 : ¬cond0_2 i)
    (x0 : Vec F S512x1024 .f32) (x1 : Vec F S512x1024 .f32) (x2 : Vec F S8x3072 .f32) (x3 : Vec F S1x1024 .f32) (wg : Vec F S1024x5632 .bf16) (wd : Vec F S2816x1024 .bf16) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ owns (c : Thread nD τ) arg9 fullShare wg ∗ owns (c : Thread nD τ) arg10 fullShare wd ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (tileA (modA x2) x0 x3 wg wd) ∗ (∃ d, owns (c : Thread nD τ) arg8 fullShare d) ∗ owns (c : Thread nD τ) arg9 fullShare wg ∗ owns (c : Thread nD τ) arg10 fullShare wd ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 arg3 harg3 arg4 harg4 (Memref.whole main_v4) (Memref.isWhole_whole _) (Memref.whole main_v5) (Memref.isWhole_whole _) arg7 harg7 arg8 harg8 arg9 harg9 arg10 harg10 arg11 harg11 arg12 harg12 cc0_scratch4) K := by
    intro W K
    simp only [cc0_ffn_eq_skeleton]; unfold cc0_ffn_skel
    simp only [k0_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, ⟨%ds2, %fs2, -, HS2⟩, ⟨%ds3, %fs3, -, HS3⟩, Hq0, Hq1, Hh0, Hh1, HW, Hk⟩
    obtain rfl := harg1.eq_unread hf0; obtain rfl := harg2.eq_unread hf1; obtain rfl := harg3.eq_unread hf2; obtain rfl := harg4.eq_unread hf3; obtain rfl := harg9.eq_unread hs0; obtain rfl := harg10.eq_unread hs1
    sl_exec (disch := first | sl_exact hc0 | sl_exact hc1 | sl_exact hc2)
    sl_step
    have em : View.readAt (Elt F) arg3.view (Rect.unit (s := S8x3072) ![0, 0] S1x3072.size inb_S8x3072_S1x3072_0_0).toLoadRect
        (harg3.unread x2) = modA x2 := funext fun j => harg3.readAt_unread x2 _ j
    have ex : View.readAt (Elt F) arg1.view (Rect.unit (s := S512x1024) ![0, 0] S512x1024.size inb_S512x1024_S512x1024_0_0).toLoadRect
        (harg1.unread x0) = x0 := (View.readAt_full _ _ _).trans (harg1.read_unread x0)
    have en : View.readAt (Elt F) arg4.view (Rect.unit (s := S1x1024) ![0, 0] S1x1024.size inb_S1x1024_S1x1024_0_0).toLoadRect
        (harg4.unread x3) = x3 := (View.readAt_full _ _ _).trans (harg4.read_unread x3)
    have gG : ∀ B : LoadRect S1024x5632, View.readAt (Elt F) arg9.view B (harg9.unread wg) = ld wg B :=
      fun B => funext fun j => harg9.readAt_unread wg B j
    have gD : ∀ B : LoadRect S2816x1024, View.readAt (Elt F) arg10.view B (harg10.unread wd) = ld wd B :=
      fun B => funext fun j => harg10.readAt_unread wd B j
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full arg7.view _ _ _ _).trans ?_
      unfold kernelRun0_B.sl.r kernelRun0_B.sl.r_1 kernelRun0_B.sl.r_2 kernelRun0_B.sl.r_3 kernelRun0_B.sl.r_4
      rw [em, ex]
      try rw [en]
      simp only [gG, gD]
      rfl
    isplitl [H5]
    · iexists _, _; isplitr; swap; · iexact H5
      ipureintro; rfl
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    iexists _; iexact HW

end Cert.FfnIdeal.Val

end
-- ==== Proof.FfnRunC.lean ====
module

public import proofs.«01_k».proof.Proof.FfnRunA
public import Idealize.ShloMosaic.Lib.WholeRead
public import Idealize.ShloMosaic.Lib.VecWindow

@[expose] public section

set_option maxRecDepth 16384

noncomputable section

namespace Cert.FfnIdeal.Val

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in set_option sl_exec.dmaWindow true in set_option sl_exec.dmaWindowSet true in
theorem kernelRun0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S8x3072 .f32) (harg3 : arg3.IsWhole) (arg4 : Memref sig .tc .vmem S1x1024 .f32) (harg4 : arg4.IsWhole) (arg7 : Memref sig .tc .vmem S512x1024 .f32) (harg7 : arg7.IsWhole) (arg8 : Memref sig .tc .vmem S512x1024 .f32) (harg8 : arg8.IsWhole) (arg9 : Memref sig .tc .vmem S1024x5632 .bf16) (harg9 : arg9.IsWhole) (arg10 : Memref sig .tc .vmem S2816x1024 .bf16) (harg10 : arg10.IsWhole) (arg11 : Memref sig .tc .vmem S2x128x5632 .f32) (harg11 : arg11.IsWhole) (arg12 : Memref sig .tc .vmem S2x352x1024 .f32) (harg12 : arg12.IsWhole) (hc0 : ¬cond0_0 i) (hc1 : ¬cond0_1 i) (hc2 : cond0_2 i)
    (x0 : Vec F S512x1024 .f32) (x1 : Vec F S512x1024 .f32) (x2 : Vec F S8x3072 .f32) (x3 : Vec F S1x1024 .f32) (y4 : Vec F S512x1024 .f32) (wg : Vec F S1024x5632 .bf16) (wd : Vec F S2816x1024 .bf16) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare y4 ∗ (∃ d, owns (c : Thread nD τ) arg8 fullShare d) ∗ owns (c : Thread nD τ) arg9 fullShare wg ∗ owns (c : Thread nD τ) arg10 fullShare wd ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare y4 ∗ owns (c : Thread nD τ) arg8 fullShare (tileB (modB i hc2 x2) x1 x3 wg wd) ∗ owns (c : Thread nD τ) arg9 fullShare wg ∗ owns (c : Thread nD τ) arg10 fullShare wd ∗ (∃ d, owns (c : Thread nD τ) arg11 fullShare d) ∗ (∃ d, owns (c : Thread nD τ) arg12 fullShare d) ∗ semVal ((c : Thread nD τ), SemLoc.dma 11) 0 ∗ semVal ((c : Thread nD τ), SemLoc.dma 12) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 arg3 harg3 arg4 harg4 (Memref.whole main_v4) (Memref.isWhole_whole _) (Memref.whole main_v5) (Memref.isWhole_whole _) arg7 harg7 arg8 harg8 arg9 harg9 arg10 harg10 arg11 harg11 arg12 harg12 cc0_scratch4) K := by
    intro W K
    simp only [cc0_ffn_eq_skeleton]; unfold cc0_ffn_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, ⟨%ds2, %fs2, -, HS2⟩, ⟨%ds3, %fs3, -, HS3⟩, Hq0, Hq1, Hh0, Hh1, HW, Hk⟩
    obtain rfl := harg1.eq_unread hf0; obtain rfl := harg2.eq_unread hf1; obtain rfl := harg3.eq_unread hf2; obtain rfl := harg4.eq_unread hf3; obtain rfl := harg9.eq_unread hs0; obtain rfl := harg10.eq_unread hs1; obtain rfl := harg7.eq_unread hf4
    sl_exec (disch := first | sl_exact hc0 | sl_exact hc1 | sl_exact hc2)
    sl_step
    have em : View.readAt (Elt F) arg3.view (Rect.unit (s := S8x3072) (k0_off1 i) S1x3072.size (k0_off1_inb i hc2)).toLoadRect
        (harg3.unread x2) = modB i hc2 x2 := funext fun j => harg3.readAt_unread x2 _ j
    have ex : View.readAt (Elt F) arg2.view (Rect.unit (s := S512x1024) ![0, 0] S512x1024.size inb_S512x1024_S512x1024_0_0).toLoadRect
        (harg2.unread x1) = x1 := (View.readAt_full _ _ _).trans (harg2.read_unread x1)
    have en : View.readAt (Elt F) arg4.view (Rect.unit (s := S1x1024) ![0, 0] S1x1024.size inb_S1x1024_S1x1024_0_0).toLoadRect
        (harg4.unread x3) = x3 := (View.readAt_full _ _ _).trans (harg4.read_unread x3)
    have gG : ∀ B : LoadRect S1024x5632, View.readAt (Elt F) arg9.view B (harg9.unread wg) = ld wg B :=
      fun B => funext fun j => harg9.readAt_unread wg B j
    have gD : ∀ B : LoadRect S2816x1024, View.readAt (Elt F) arg10.view B (harg10.unread wd) = ld wd B :=
      fun B => funext fun j => harg10.readAt_unread wd B j
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg7.read_unread _
      iexact H4
    isplitl [H5]
    · iexists _; isplitr; swap; · iexact H5
      ipureintro
      refine (View.read_writes_full arg8.view _ _ _ _).trans ?_
      unfold kernelRun0_C.sl.r_1 kernelRun0_C.sl.r_2 kernelRun0_C.sl.r_4 kernelRun0_C.sl.r_5 kernelRun0_C.sl.r_6
      try unfold kernelRun0_C.sl.r kernelRun0_C.sl.r_3
      rw [em, ex]
      try rw [en]
      simp only [gG, gD]
      rfl
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    iexists _; iexact HW

end Cert.FfnIdeal.Val

end
-- ==== Proof.FfnDat.lean ====
module

public import proofs.«01_k».proof.Proof.FfnRunB
public import proofs.«01_k».proof.Proof.FfnRunC
public import proofs.«01_k».proof.Proof.Gen.FfnIdeal.Launch
public import proofs.«01_k».proof.Proof.Gen.FfnIdeal.Points
public import Idealize.ShloMosaic.Lib.Claim
public import Idealize.ShloMosaic.Lib.Pipeline.TableIdle

@[expose] public section

set_option maxRecDepth 16384

noncomputable section

namespace Cert.FfnIdeal.Val

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The schedule in closed form -/

/-- The weights are staged at the first point only. -/
theorem cond0_iff : ∀ t : Fin cfg0.N, cond0_0 (grid0.coords t) ↔ t.val = 0 :=
  (by decide +kernel : ∀ t : Fin grid0.N, cond0_0 (grid0.coords t) ↔ t.val = 0)
/-- The first eight points are prompt tiles. -/
theorem cond1_iff : ∀ t : Fin cfg0.N, cond0_1 (grid0.coords t) ↔ t.val < 8 :=
  (by decide +kernel : ∀ t : Fin grid0.N, cond0_1 (grid0.coords t) ↔ t.val < 8)
/-- The other sixteen are sample tiles. -/
theorem cond2_iff : ∀ t : Fin cfg0.N, cond0_2 (grid0.coords t) ↔ 8 ≤ t.val :=
  (by decide +kernel : ∀ t : Fin grid0.N, cond0_2 (grid0.coords t) ↔ 8 ≤ t.val)
/-- The prompt's window is not written from point 8 on. -/
theorem idle4_iff : ∀ t : Fin cfg0.N, cfg0.idle 4 (grid0.coords t) = true ↔ 8 ≤ t.val :=
  (by decide +kernel : ∀ t : Fin grid0.N, idle0 4 (grid0.coords t) = true ↔ 8 ≤ t.val)
/-- The sample's window is not written before point 8. -/
theorem idle5_iff : ∀ t : Fin cfg0.N, cfg0.idle 5 (grid0.coords t) = true ↔ t.val < 8 :=
  (by decide +kernel : ∀ t : Fin grid0.N, idle0 5 (grid0.coords t) = true ↔ t.val < 8)
/-- When the prompt's window is written back. -/
theorem flush4_iff : ∀ t : Fin cfg0.N, (cfg0.win 4).flush t = true ↔ (t.val < 7 ∨ t.val = 23) :=
  (by decide +kernel : ∀ t : Fin grid0.N, win0_4.flush t = true ↔ (t.val < 7 ∨ t.val = 23))
/-- When the sample's window is written back. -/
theorem flush5_iff : ∀ t : Fin cfg0.N, (cfg0.win 5).flush t = true ↔ 8 ≤ t.val :=
  (by decide +kernel : ∀ t : Fin grid0.N, win0_5.flush t = true ↔ 8 ≤ t.val)

/-- The prompt tile whose result the prompt's window holds after point `t`. -/
def pt (t : Fin cfg0.N) : Fin cfg0.N := ⟨min t.val 7, lt_of_le_of_lt (Nat.min_le_left _ _) t.isLt⟩

/-! ## The proof data -/

/-- The gate and up projections' weights in the scratch, once staged. -/
def WG (c : Dev nD) : Vec F S1024x5632 .bf16 := wguOf (hbM0_0.view.read (Elt F) (V m c main_v4))
/-- The down projection's weights in the scratch, once staged. -/
def WD (c : Dev nD) : Vec F S2816x1024 .bf16 := wdOf (hbM0_1.view.read (Elt F) (V m c main_v5))

/-- The prompt tile of point `t`. -/
def outA (c : Dev nD) (t : Fin cfg0.N) : Vec F S512x1024 .f32 :=
  tileA (modA (iblk m c 2 t)) (iblk m c 0 t) (iblk m c 3 t) (WG m c) (WD m c)
/-- The sample tile of point `t` (before point 8, where there is none, the buffer's contents are not named). -/
def outB (c : Dev nD) (t : Fin cfg0.N) : Vec F S512x1024 .f32 :=
  if h : k0_cond3 (grid0.coords t) = 1#1 then
    tileB (modB (grid0.coords t) h (iblk m c 2 t)) (iblk m c 1 t) (iblk m c 3 t) (WG m c) (WD m c)
  else Pipeline.Dat.unnamed (cfg := cfg0) (5 : Fin 6) t

/-- The invariant before point `n`: from the first point on the scratch holds the staged weights. -/
def Inv (c : Dev nD) (n : ℕ) : sProp 𝕄 :=
  iprop(iprop((∃ a, ⌜n ≠ 0 → a = WG m c⌝ ∗ owns (c : Thread nD τ) scM0_0 fullShare a)
      ∗ (∃ a, ⌜n ≠ 0 → a = WD m c⌝ ∗ owns (c : Thread nD τ) scM0_1 fullShare a)
      ∗ (∃ d, owns (c : Thread nD τ) scM0_2 fullShare d) ∗ (∃ d, owns (c : Thread nD τ) scM0_3 fullShare d))
    ∗ (∃ r, prngReg c r)
    ∗ iprop(semVal ((c : Thread nD τ), SemLoc.dma 11) 0 ∗ semVal ((c : Thread nD τ), SemLoc.dma 12) 0)
    ∗ iprop(hbPt0 c hbM0_0 (V m c main_v4) ∗ hbPt0 c hbM0_1 (V m c main_v5)))

/-- What every window's buffer holds after each point, and the invariant between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA m c (pt t)
    | ⟨5, _⟩ => outB m c t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outA m c (pt t) := by dsimp only [dats]
theorem after0_5 (c : Dev nD) (t : Fin cfg0.N) : (dats m 0 c).after 5 t = outB m c t := by dsimp only [dats]

/-- Input window 0's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's buffer holds its block at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's buffer holds its block at every point. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- From point 8 on the prompt's buffer keeps the last prompt tile. -/
theorem before0_4 (c : Dev nD) (t : Fin cfg0.N) (ht : 8 ≤ t.val) (d) : (dats m 0 c).before 4 t d = outA m c (pt t) := by
  rw [Dat.before_out_traj (dats m 0 c) 4 rfl (fun _ _ => rfl) (fun u hu hi _ => ?_) t.val t rfl d, if_neg, after0_4]
  · congr 1; exact Fin.ext (by simp only [pt]; omega)
  · rw [(by decide +kernel : ∀ t : Fin grid0.N, 8 ≤ t.val → cfg0.fresh 4 t.val = false) t ht]
    exact Bool.false_ne_true
  · rw [after0_4, after0_4]; congr 1
    have := (idle4_iff u).mp hi
    exact Fin.ext (by simp only [pt]; omega)

/-- Before point 8 the sample's buffer holds whatever it held. -/
theorem before0_5 (c : Dev nD) (t : Fin cfg0.N) (ht : t.val < 8) (d) : (dats m 0 c).before 5 t d = d := by
  rw [Dat.before_out_traj (dats m 0 c) 5 rfl (fun _ _ => rfl) (fun u hu hi hf => ?_) t.val t rfl d, if_pos]
  · exact (by decide +kernel : ∀ t : Fin grid0.N, t.val < 8 → cfg0.fresh 5 t.val = true) t ht
  · have h1 := (by decide +kernel : ∀ t : Fin grid0.N, t.val < 8 → cfg0.fresh 5 t.val = true) u ((idle5_iff u).mp hi)
    exact absurd (hf.symm.trans h1) Bool.false_ne_true

/-- Each window's current staging memref. -/
abbrev ms0_0 (t : Fin cfg0.N) : Memref sig .tc .vmem S512x1024 .f32 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S8x3072 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S512x1024 .f32 := win0_4.stage (cfg0.slots t 4)
abbrev ms0_5 (t : Fin cfg0.N) : Memref sig .tc .vmem S512x1024 .f32 := win0_5.stage (cfg0.slots t 5)

theorem leaves0_0 (c : Dev nD) (t : Fin cfg0.N) :
    (dats m 0 c).leavesExact 0 t = owns (c : Thread nD τ) (ms0_0 t) fullShare (iblk m c 0 t) := by
  unfold Dat.leavesExact
  rw [show cfg0.idle 0 (cfg0.grid.coords t) = false from rfl, after0_0]
theorem leaves0_1 (c : Dev nD) (t : Fin cfg0.N) :
    (dats m 0 c).leavesExact 1 t = owns (c : Thread nD τ) (ms0_1 t) fullShare (iblk m c 1 t) := by
  unfold Dat.leavesExact
  rw [show cfg0.idle 1 (cfg0.grid.coords t) = false from rfl, after0_1]
theorem leaves0_2 (c : Dev nD) (t : Fin cfg0.N) :
    (dats m 0 c).leavesExact 2 t = owns (c : Thread nD τ) (ms0_2 t) fullShare (iblk m c 2 t) := by
  unfold Dat.leavesExact
  rw [show cfg0.idle 2 (cfg0.grid.coords t) = false from rfl, after0_2]
theorem leaves0_3 (c : Dev nD) (t : Fin cfg0.N) :
    (dats m 0 c).leavesExact 3 t = owns (c : Thread nD τ) (ms0_3 t) fullShare (iblk m c 3 t) := by
  unfold Dat.leavesExact
  rw [show cfg0.idle 3 (cfg0.grid.coords t) = false from rfl, after0_3]

/-- At a prompt point the prompt's buffer is left at the point's tile. -/
theorem leaves0_4_live (c : Dev nD) (t : Fin cfg0.N) (ht : t.val < 8) :
    (dats m 0 c).leavesExact 4 t = owns (c : Thread nD τ) (ms0_4 t) fullShare (outA m c t) := by
  unfold Dat.leavesExact
  rw [show cfg0.idle 4 (cfg0.grid.coords t) = false from by
    cases h : cfg0.idle 4 (cfg0.grid.coords t)
    · rfl
    · have := (idle4_iff t).mp h; omega, after0_4, show pt t = t from Fin.ext (by simp only [pt]; omega)]

/-- At a sample point it is left as it was found. -/
theorem leaves0_4_idle (c : Dev nD) (t : Fin cfg0.N) (ht : 8 ≤ t.val) :
    (owns (c : Thread nD τ) (ms0_4 t) fullShare (outA m c (pt t)) : sProp 𝕄) ⊢ (dats m 0 c).leavesExact 4 t := by
  unfold Dat.leavesExact
  rw [show cfg0.idle 4 (cfg0.grid.coords t) = true from (idle4_iff t).mpr ht]
  cases h : (cfg0.win 4).flush t
  · iintro H
    iexists (outA m c (pt t))
    rw [before0_4 m c t ht]; iexact H
  · rw [after0_4]

/-- At a prompt point the sample's buffer is left at anything. -/
theorem leaves0_5_idle (c : Dev nD) (t : Fin cfg0.N) (ht : t.val < 8) :
    iprop(∃ d, owns (c : Thread nD τ) (ms0_5 t) fullShare d : sProp 𝕄) ⊢ (dats m 0 c).leavesExact 5 t := by
  rw [Dat.leavesExact_idle (dats m 0 c) 5 t ((idle5_iff t).mpr ht) (by
    cases h : (cfg0.win 5).flush t
    · rfl
    · have := (flush5_iff t).mp h; omega)]
  iintro ⟨%d, H⟩
  iexists d
  rw [before0_5 m c t ht]; iexact H

/-- At a sample point it is left at the point's tile. -/
theorem leaves0_5_live (c : Dev nD) (t : Fin cfg0.N) (ht : 8 ≤ t.val) :
    (dats m 0 c).leavesExact 5 t = owns (c : Thread nD τ) (ms0_5 t) fullShare (outB m c t) := by
  unfold Dat.leavesExact
  rw [show cfg0.idle 5 (cfg0.grid.coords t) = false from by
    cases h : cfg0.idle 5 (cfg0.grid.coords t)
    · rfl
    · have := (idle5_iff t).mp h; omega, after0_5]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2400000 in
/-- The first point: the weights are staged and the first prompt tile computed. -/
theorem sound_A (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3]
  rw [leaves0_4_live m c t (by omega)]
  rw [show (dats m 0 c).Φ t.succ = Inv m c (t.val + 1) from rfl, show (dats m 0 c).Φ t.castSucc = Inv m c t.val from rfl]
  unfold Inv
  rw [exists_held (Nat.succ_ne_zero t.val) (WG m c) (fun a => owns (c : Thread nD τ) scM0_0 fullShare a),
    exists_held (Nat.succ_ne_zero t.val) (WD m c) (fun a => owns (c : Thread nD τ) scM0_1 fullShare a)]
  unfold Dat.owesAt Pipeline.owesWithin
  rw [show (dats m 0 c).owed t.castSucc = 0 from rfl, show (dats m 0 c).owed t.succ = 0 from rfl]
  iintro ⟨⟨⟨⟨%a0, -, HS0⟩, ⟨%a1, -, HS1⟩, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply (kernelRun0_A c (grid0.coords t) _ _ _ _ _ _ _ _ _ _ _ _ _ _ _ _ _ _ _ _ ((cond0_iff t).mpr ht) ((cond1_iff t).mpr (by omega)) (fun h => absurd ((cond2_iff t).mp h) (by omega)) (iblk m c 0 t) (iblk m c 1 t) (iblk m c 2 t) (iblk m c 3 t) (V m c main_v4) (V m c main_v5) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexists _; iexact HS0
  isplitl [HS1]; · iexists _; iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, HS0, HS1, HS2, HS3, Hq0, Hq1, Hh0, Hh1, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · iexact H4
  iapply (leaves0_5_idle m c t (by omega)); iexact H5

set_option maxHeartbeats 2400000 in
/-- A later prompt point. -/
theorem sound_B (c : Dev nD) (t : Fin cfg0.N) (h0 : t.val ≠ 0) (h1 : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3]
  rw [leaves0_4_live m c t h1]
  rw [show (dats m 0 c).Φ t.succ = Inv m c (t.val + 1) from rfl, show (dats m 0 c).Φ t.castSucc = Inv m c t.val from rfl]
  unfold Inv
  rw [exists_held (Nat.succ_ne_zero t.val) (WG m c) (fun a => owns (c : Thread nD τ) scM0_0 fullShare a),
    exists_held (Nat.succ_ne_zero t.val) (WD m c) (fun a => owns (c : Thread nD τ) scM0_1 fullShare a)]
  rw [exists_held (held := t.val ≠ 0) (by omega) (WG m c) (fun a => owns (c : Thread nD τ) scM0_0 fullShare a),
    exists_held (held := t.val ≠ 0) (by omega) (WD m c) (fun a => owns (c : Thread nD τ) scM0_1 fullShare a)]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  iapply (kernelRun0_B c (grid0.coords t) _ _ _ _ _ _ _ _ _ _ _ _ _ _ _ _ _ _ _ _ (fun h => h0 ((cond0_iff t).mp h)) ((cond1_iff t).mpr h1) (fun h => absurd ((cond2_iff t).mp h) (by omega)) (iblk m c 0 t) (iblk m c 1 t) (iblk m c 2 t) (iblk m c 3 t) (WG m c) (WD m c) (V m c main_v4) (V m c main_v5) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, HS0, HS1, HS2, HS3, Hq0, Hq1, Hh0, Hh1, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · iexact H4
  iapply (leaves0_5_idle m c t (by omega)); iexact H5

set_option maxHeartbeats 2400000 in
/-- A sample point. -/
theorem sound_C (c : Dev nD) (t : Fin cfg0.N) (ht : 8 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4 m c t ht, leaves0_0, leaves0_1, leaves0_2, leaves0_3]
  rw [leaves0_5_live m c t ht]
  rw [show (dats m 0 c).Φ t.succ = Inv m c (t.val + 1) from rfl, show (dats m 0 c).Φ t.castSucc = Inv m c t.val from rfl]
  unfold Inv
  rw [exists_held (Nat.succ_ne_zero t.val) (WG m c) (fun a => owns (c : Thread nD τ) scM0_0 fullShare a),
    exists_held (Nat.succ_ne_zero t.val) (WD m c) (fun a => owns (c : Thread nD τ) scM0_1 fullShare a)]
  rw [exists_held (held := t.val ≠ 0) (by omega) (WG m c) (fun a => owns (c : Thread nD τ) scM0_0 fullShare a),
    exists_held (held := t.val ≠ 0) (by omega) (WD m c) (fun a => owns (c : Thread nD τ) scM0_1 fullShare a)]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
  rw [show outB m c t = tileB (modB (grid0.coords t) ((cond2_iff t).mpr ht) (iblk m c 2 t)) (iblk m c 1 t) (iblk m c 3 t) (WG m c) (WD m c) from
    dif_pos ((cond2_iff t).mpr ht)]
  iapply (kernelRun0_C c (grid0.coords t) _ _ _ _ _ _ _ _ _ _ _ _ _ _ _ _ _ _ _ _ (fun h => absurd ((cond0_iff t).mp h) (by omega)) (fun h => absurd ((cond1_iff t).mp h) (by omega)) ((cond2_iff t).mpr ht) (iblk m c 0 t) (iblk m c 1 t) (iblk m c 2 t) (iblk m c 3 t) (outA m c (pt t)) (WG m c) (WD m c) (V m c main_v4) (V m c main_v5) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, HS0, HS1, HS2, HS3, Hq0, Hq1, Hh0, Hh1, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · iapply (leaves0_4_idle m c t ht); iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val < 8
  · exact sound_B m c t h0 h1
  · exact sound_C m c t (Nat.le_of_not_lt h1)

theorem defs₀_row (t : Fin cfg0.N) :
    defs₀ (F := F) .tc cfg0.body (cfg0.bodyArgs t (cfg0.slots t)) = bodyAt0 t := by
  unfold defs₀; rw [Defs.onTc_tc]

/-- The body obligation of the proof data. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The body's own transfer semaphores. -/
abbrev osem0 : Fin 2 → SemLoc sig := fun j => (![SemLoc.dma 11, SemLoc.dma 12] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
/-- The weights' arrays, which the body itself reads. -/
def H0 : Finset (Ref sig .tc) := {main_v4, main_v5}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v4) ∗ hbPt0 c hbM0_1 (V m c main_v5)) := by
  rw [BI.bigSep_eq_bigSepL_of_eq [main_v4, main_v5] (by decide) (by decide)]; rfl
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 11) 0 ∗ semVal ((c : Thread nD τ), SemLoc.dma 12) 0) ∗ iprop(hbPt0 c hbM0_0 (V m c main_v4) ∗ hbPt0 c hbM0_1 (V m c main_v5))) := by
  rw [Pipeline.ΦD_eq, scopedRest0_eq, ownSems00_eq, hbmPts0_eq]; simp only [scM0_0, scM0_1, scM0_2, scM0_3, owns_whole]; try rfl

/-- Before the first point the invariant holds of whatever the scratch holds. -/
theorem inv_in (c : Dev nD) : Pipeline.ΦD osem0 spec0 H0 (V m) c ⊢ Inv m c 0 := by
  rw [PhiD0_eq]; unfold Inv
  iintro ⟨⟨⟨%a0, HS0⟩, ⟨%a1, HS1⟩, HS2, HS3⟩, Hr⟩
  isplitl [HS0 HS1 HS2 HS3]
  · isplitl [HS0]
    · iexists a0; isplitr
      · ipureintro; exact fun h => absurd rfl h
      · iexact HS0
    isplitl [HS1]
    · iexists a1; isplitr
      · ipureintro; exact fun h => absurd rfl h
      · iexact HS1
    isplitl [HS2]; · iexact HS2
    iexact HS3
  · iexact Hr

/-- After the last one its scratch is forgotten. -/
theorem inv_out (c : Dev nD) (n : ℕ) : Inv m c n ⊢ Pipeline.ΦD osem0 spec0 H0 (V m) c := by
  rw [PhiD0_eq]; unfold Inv
  iintro ⟨⟨⟨%a0, -, HS0⟩, ⟨%a1, -, HS1⟩, HS2, HS3⟩, Hr⟩
  isplitl [HS0 HS1 HS2 HS3]
  · isplitl [HS0]
    · iexists a0; iexact HS0
    isplitl [HS1]
    · iexists a1; iexact HS1
    isplitl [HS2]; · iexact HS2
    iexact HS3
  · iexact Hr

set_option maxHeartbeats 800000 in
/-- The program up to the pipeline: the host operations. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array ends as the proof data say, every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := inv_in m) (hout := fun c => inv_out m c _)

/-- The frame: the arguments end as they began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c).2 main_arg0 (Pipeline.mem_restRefs_of main_arg0 (by decide) (by decide)) |>.trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_quiescent m ρ)

end Cert.FfnIdeal.Val

end
-- ==== Proof.FfnSpec.lean ====
module

public import Idealize.ShloMosaic.Lib.Pointwise

@[expose] public section

noncomputable section

namespace Cert.FfnSpec

open Idealize.ShloMosaic

/-! The feed-forward half of the layer on ONE row of activations, over the extended reals: what both programs are
shown to compute at every row of their results. -/

/-- One row after the norm and the modulation: the row over its root mean square, times the norm's weights, times one
plus the scale, plus the shift. -/
def hidRow (x nf sc sh : Fin 1024 → EReal) (k : Fin 1024) : EReal :=
  x k * Ideal.rsqrt (Ideal.div (∑ y, x y * x y) (Ideal.ofBits FTy.f32 1149239296#32) + Ideal.ofBits FTy.f32 897988541#32)
    * nf k * (1 + sc k) + sh k

/-- The row's projection on column `p` of the gate-and-up matrix. -/
def proj (h : Fin 1024 → EReal) (w : Fin 1024 → Fin 5632 → EReal) (p : Fin 5632) : EReal := ∑ k, h k * w k p

/-- The gated activation: the gate times its logistic, times the up projection. -/
def actRow (h : Fin 1024 → EReal) (w : Fin 1024 → Fin 5632 → EReal) (p : Fin 2816) : EReal :=
  proj h w ⟨p.val, by omega⟩ * Ideal.logistic (proj h w ⟨p.val, by omega⟩) * proj h w ⟨2816 + p.val, by omega⟩

/-- The row's result: the row plus its gate times the down projection of the activations. -/
def ffnRow (x nf sc sh g : Fin 1024 → EReal) (wgu : Fin 1024 → Fin 5632 → EReal) (wd : Fin 2816 → Fin 1024 → EReal)
    (q : Fin 1024) : EReal :=
  x q + g q * ∑ p : Fin 2816, actRow (hidRow x nf sc sh) wgu p * wd p q

/-- A sum over the hidden columns, taken in the kernel's three chunks. -/
theorem sum_chunks (f : Fin 2816 → EReal) :
    ∑ p : Fin 2816, f p = ∑ p : Fin 1024, f ⟨p.val, by omega⟩ + ∑ p : Fin 1024, f ⟨1024 + p.val, by omega⟩
      + ∑ p : Fin 768, f ⟨2048 + p.val, by omega⟩ := by
  rw [show (∑ p : Fin 2816, f p) = ∑ p : Fin (2048 + 768), f ⟨p.val, by omega⟩ from rfl, Fin.sum_univ_add]
  congr 1
  rw [show (∑ p : Fin 2048, f ⟨(Fin.castAdd 768 p).val, by omega⟩)
    = ∑ p : Fin (1024 + 1024), f ⟨p.val, by omega⟩ from rfl, Fin.sum_univ_add]
  rfl

end Cert.FfnSpec

end
-- ==== Proof.FfnTile.lean ====
module

public import proofs.«01_k».proof.Proof.FfnBlock
public import proofs.«01_k».proof.Proof.FfnSpec
public import Idealize.ShloMosaic.Lib.Pointwise

@[expose] public section

set_option maxRecDepth 16384

noncomputable section

namespace Cert.FfnIdeal.Val

open Cert.FfnIdeal Cert.FfnIdeal.Gen Cert.FfnSpec
open Idealize.ShloMosaic Idealize.ShloMosaic.TcCoe Idealize.ShloMosaic.Tactic

/-- One row of a tile's normalised activations, in the prompt's branch. -/
theorem hidA_at (m : Vec Ideal S1x3072 .f32) (x : Vec Ideal S512x1024 .f32) (n : Vec Ideal S1x1024 .f32)
    (r : Fin 512) (q : Fin 1024) :
    k0_pay21 m x n (ix2 r q) = hidRow (fun k => x (ix2 r k)) (fun k => n (ix2 0 k))
      (fun k => m (ix2 0 ⟨1024 + k.val, by omega⟩)) (fun k => m (ix2 0 ⟨k.val, by omega⟩)) q := by
  pointwise [k0_pay21, k0_pay20]
  rfl

/-- One row of a tile's normalised activations, in the sample's branch. -/
theorem hidB_at (m : Vec Ideal S1x3072 .f32) (x : Vec Ideal S512x1024 .f32) (n : Vec Ideal S1x1024 .f32)
    (r : Fin 512) (q : Fin 1024) :
    k0_pay27 (k0_pay23 m) (k0_pay26 m x n) (ix2 r q) = hidRow (fun k => x (ix2 r k)) (fun k => n (ix2 0 k))
      (fun k => m (ix2 0 ⟨1024 + k.val, by omega⟩)) (fun k => m (ix2 0 ⟨k.val, by omega⟩)) q := by
  pointwise [k0_pay27, k0_pay26, k0_pay23, k0_pay25]
  rfl

set_option maxHeartbeats 1000000 in
/-- Each row of a prompt tile is the feed-forward of that row. -/
theorem tileA_at (m : Vec Ideal S1x3072 .f32) (x : Vec Ideal S512x1024 .f32) (n : Vec Ideal S1x1024 .f32)
    (wg : Vec Ideal S1024x5632 .bf16) (wd : Vec Ideal S2816x1024 .bf16) (r : Fin 512) (q : Fin 1024) :
    tileA m x n wg wd (ix2 r q) = ffnRow (fun k => x (ix2 r k)) (fun k => n (ix2 0 k))
      (fun k => m (ix2 0 ⟨1024 + k.val, by omega⟩)) (fun k => m (ix2 0 ⟨k.val, by omega⟩))
      (fun k => m (ix2 0 ⟨2048 + k.val, by omega⟩)) (fun k p => wg (ix2 k p)) (fun p k => wd (ix2 p k)) q := by
  unfold ffnRow
  rw [sum_chunks]
  pointwise [tileA, k0_pay3, k0_pay19, k0_pay20, k0_pay22, ld]
  simp only [hidA_at, actRow, proj, ← Nat.add_assoc, Nat.reduceAdd]

set_option maxHeartbeats 1000000 in
/-- Each row of a sample tile is the feed-forward of that row. -/
theorem tileB_at (m : Vec Ideal S1x3072 .f32) (x : Vec Ideal S512x1024 .f32) (n : Vec Ideal S1x1024 .f32)
    (wg : Vec Ideal S1024x5632 .bf16) (wd : Vec Ideal S2816x1024 .bf16) (r : Fin 512) (q : Fin 1024) :
    tileB m x n wg wd (ix2 r q) = ffnRow (fun k => x (ix2 r k)) (fun k => n (ix2 0 k))
      (fun k => m (ix2 0 ⟨1024 + k.val, by omega⟩)) (fun k => m (ix2 0 ⟨k.val, by omega⟩))
      (fun k => m (ix2 0 ⟨2048 + k.val, by omega⟩)) (fun k p => wg (ix2 k p)) (fun p k => wd (ix2 p k)) q := by
  unfold ffnRow
  rw [sum_chunks]
  pointwise [tileB, k0_pay4, k0_pay24, k0_pay25, k0_pay28, k0_pay29, ld]
  simp only [hidB_at, actRow, proj, ← Nat.add_assoc, Nat.reduceAdd]

end Cert.FfnIdeal.Val

end
-- ==== Proof.FfnVal.lean ====
module

public import proofs.«01_k».proof.Proof.FfnDat
public import proofs.«01_k».proof.Proof.FfnTile
public import Idealize.ShloMosaic.Lib.Pipeline.ValueKit.Point

@[expose] public section

set_option maxRecDepth 16384

noncomputable section

namespace Cert.FfnIdeal.Val

open Cert.FfnIdeal Cert.FfnIdeal.Gen Cert.FfnSpec
open Idealize.ShloMosaic Idealize.ShloMosaic.TcCoe Idealize.ShloMosaic.Tactic

variable (m : (ℓ : Loc nD τ sig) → Buf (Elt Ideal) ℓ)

/-- Where each window's block lies at each point. -/
theorem idx : ∀ t : Fin cfg0.N,
    win0_0.index t = ![min t.val 7, 0] ∧ win0_1.index t = ![t.val - 8, 0]
    ∧ win0_2.index t = ![if t.val < 8 then 1 else 0, 1] ∧ win0_3.index t = ![0, 0]
    ∧ win0_4.index t = ![min t.val 7, 0] ∧ win0_5.index t = ![t.val - 8, 0] :=
  (by decide +kernel : ∀ t : Fin grid0.N, _)

/-- The row of the staged modulation block that a sample tile reads. -/
theorem off1_eq : ∀ t : Fin cfg0.N, k0_cond3 (grid0.coords t) = 1#1 → k0_off1 (grid0.coords t) = ![(t.val - 8) / 2, 0] :=
  (by decide +kernel : ∀ t : Fin grid0.N, k0_cond3 (grid0.coords t) = 1#1 → k0_off1 (grid0.coords t) = ![(t.val - 8) / 2, 0])

/-- The gate-and-up matrix in the scratch is the argument. -/
theorem WG_at (c : Dev nD) (k : Fin 1024) (p : Fin 5632) :
    WG m c (ix2 k p) = m ((c.tc : Thread nD τ).loc main_arg4) (ix3 0 k p) := by
  show V m c main_v4 (ix2 k p) = _
  entry_read
  exact shapeCast_apply _ _ _ _ (by
    refine (Shape.rowMajor_val_three (d := ![1, 1024, 5632]) _).trans (Eq.trans ?_ (Shape.rowMajor_val_two (d := ![1024, 5632]) _).symm)
    show (0 * 1024 + k.val) * 5632 + p.val = k.val * 5632 + p.val
    omega)

/-- The down matrix in the scratch is the argument. -/
theorem WD_at (c : Dev nD) (k : Fin 2816) (p : Fin 1024) :
    WD m c (ix2 k p) = m ((c.tc : Thread nD τ).loc main_arg5) (ix3 0 k p) := by
  show V m c main_v5 (ix2 k p) = _
  entry_read
  exact shapeCast_apply _ _ _ _ (by
    refine (Shape.rowMajor_val_three (d := ![1, 2816, 1024]) _).trans (Eq.trans ?_ (Shape.rowMajor_val_two (d := ![2816, 1024]) _).symm)
    show (0 * 2816 + k.val) * 1024 + p.val = k.val * 1024 + p.val
    omega)

/-- The prompt's rows as the launch finds them. -/
theorem V2_at (c : Dev nD) (r : Fin 4096) (k : Fin 1024) :
    V m c main_v2 (ix2 r k)
      = m ((c.tc : Thread nD τ).loc main_arg0) (ix3 ⟨r.val / 256, by omega⟩ ⟨r.val % 256, by omega⟩ k) := by
  entry_read
  exact shapeCast_apply _ _ _ _ (by
    refine (Shape.rowMajor_val_three (d := ![16, 256, 1024]) _).trans (Eq.trans ?_ (Shape.rowMajor_val_two (d := ![4096, 1024]) _).symm)
    show (r.val / 256 * 256 + r.val % 256) * 1024 + k.val = r.val * 1024 + k.val
    omega)

/-- The sample's rows as the launch finds them. -/
theorem V3_at (c : Dev nD) (r : Fin 8192) (k : Fin 1024) :
    V m c main_v3 (ix2 r k)
      = m ((c.tc : Thread nD τ).loc main_arg1) (ix3 ⟨r.val / 1024, by omega⟩ ⟨r.val % 1024, by omega⟩ k) := by
  entry_read
  exact shapeCast_apply _ _ _ _ (by
    refine (Shape.rowMajor_val_three (d := ![8, 1024, 1024]) _).trans (Eq.trans ?_ (Shape.rowMajor_val_two (d := ![8192, 1024]) _).symm)
    show (r.val / 1024 * 1024 + r.val % 1024) * 1024 + k.val = r.val * 1024 + k.val
    omega)

/-- The norm's weights as the launch finds them. -/
theorem V1_at (c : Dev nD) (k : Fin 1024) :
    V m c main_v1 (ix2 0 k) = m ((c.tc : Thread nD τ).loc main_arg3) (ix2 0 k) := by
  entry_read
  pointwise []

/-- A prompt tile's rows. -/
theorem x0_at (c : Dev nD) (t : Fin cfg0.N) (ht : t.val < 8) (r : Fin 512) (k : Fin 1024) :
    iblk m c 0 t (ix2 r k) = m ((c.tc : Thread nD τ).loc main_arg0)
      (ix3 ⟨(512 * t.val + r.val) / 256, by omega⟩ ⟨(512 * t.val + r.val) % 256, by omega⟩ k) := by
  refine Eq.trans ?_ (V2_at m c ⟨512 * t.val + r.val, by omega⟩ k)
  blk_ext [iblk, idx t]

/-- A sample tile's rows. -/
theorem x1_at (c : Dev nD) (t : Fin cfg0.N) (ht : 8 ≤ t.val) (r : Fin 512) (k : Fin 1024) :
    iblk m c 1 t (ix2 r k) = m ((c.tc : Thread nD τ).loc main_arg1)
      (ix3 ⟨(512 * (t.val - 8) + r.val) / 1024, by have := t.isLt; have : cfg0.N = 24 := rfl; omega⟩
        ⟨(512 * (t.val - 8) + r.val) % 1024, by omega⟩ k) := by
  refine Eq.trans ?_ (V3_at m c ⟨512 * (t.val - 8) + r.val, by have := t.isLt; have : cfg0.N = 24 := rfl; omega⟩ k)
  blk_ext [iblk, idx t]

/-- The staged modulation block: the right half, at its group of eight rows. -/
theorem x2_at (c : Dev nD) (t : Fin cfg0.N) (r : Fin 8) (k : Fin 3072) :
    iblk m c 2 t (ix2 r k) = m ((c.tc : Thread nD τ).loc main_arg2)
      (ix2 ⟨(if t.val < 8 then 8 else 0) + r.val, by split <;> omega⟩ ⟨3072 + k.val, by omega⟩) := by
  blk_ext [iblk, V, idx t]
  split <;> omega

/-- The staged norm's weights. -/
theorem x3_at (c : Dev nD) (t : Fin cfg0.N) (k : Fin 1024) :
    iblk m c 3 t (ix2 0 k) = m ((c.tc : Thread nD τ).loc main_arg3) (ix2 0 k) := by
  refine Eq.trans ?_ (V1_at m c k)
  blk_ext [iblk, idx t]

/-- The prompt's modulation row. -/
theorem modA_at (x : Vec Ideal S8x3072 .f32) (k : Fin 3072) : modA x (ix2 0 k) = x (ix2 0 k) := by
  unfold modA ld
  refine congrArg x (funext fun a => Fin.ext ?_)
  match a with
  | ⟨0, _⟩ => rfl
  | ⟨1, _⟩ => show 0 + 1 * k.val = k.val; omega

/-- A sample tile's modulation row. -/
theorem modB_at (t : Fin cfg0.N) (h : k0_cond3 (grid0.coords t) = 1#1) (x : Vec Ideal S8x3072 .f32) (k : Fin 3072) :
    modB (grid0.coords t) h x (ix2 0 k)
      = x (ix2 ⟨(t.val - 8) / 2, by have := t.isLt; have : cfg0.N = 24 := rfl; omega⟩ k) := by
  have e := off1_eq t h
  unfold modB ld
  refine congrArg x (funext fun a => Fin.ext ?_)
  match a with
  | ⟨0, _⟩ =>
    show k0_off1 (grid0.coords t) 0 + 1 * 0 = (t.val - 8) / 2
    rw [e]; rfl
  | ⟨1, _⟩ =>
    show k0_off1 (grid0.coords t) 1 + 1 * k.val = k.val
    rw [e]; show 0 + 1 * k.val = k.val; omega

end Cert.FfnIdeal.Val

end
-- ==== Proof.FfnOut.lean ====
module

public import proofs.«01_k».proof.Proof.FfnVal

@[expose] public section

set_option maxRecDepth 16384

noncomputable section

namespace Cert.FfnIdeal.Val

open Cert.FfnIdeal Cert.FfnIdeal.Gen Cert.FfnSpec
open Idealize.ShloMosaic Idealize.ShloMosaic.TcCoe Idealize.ShloMosaic.Tactic
open Idealize.SL.Sem

variable (m : (ℓ : Loc nD τ sig) → Buf (Elt Ideal) ℓ) (ρ : Dev nD → PrngReg)

/-- The prompt result as one function of the arguments: the feed-forward of every row. -/
def GP (c : Dev nD) : Vec Ideal S4096x1024 .f32 := fun j =>
  ffnRow
    (fun k => m ((c.tc : Thread nD τ).loc main_arg0)
      (ix3 ⟨(j 0).val / 256, by have : (j 0).val < 4096 := (j 0).isLt; omega⟩ ⟨(j 0).val % 256, by omega⟩ k))
    (fun k => m ((c.tc : Thread nD τ).loc main_arg3) (ix2 0 k))
    (fun k => m ((c.tc : Thread nD τ).loc main_arg2) (ix2 8 ⟨4096 + k.val, by omega⟩))
    (fun k => m ((c.tc : Thread nD τ).loc main_arg2) (ix2 8 ⟨3072 + k.val, by omega⟩))
    (fun k => m ((c.tc : Thread nD τ).loc main_arg2) (ix2 8 ⟨5120 + k.val, by omega⟩))
    (fun k p => m ((c.tc : Thread nD τ).loc main_arg4) (ix3 0 k p))
    (fun p k => m ((c.tc : Thread nD τ).loc main_arg5) (ix3 0 p k)) (j 1)

/-- The sample result as one function of the arguments: the feed-forward of every row. -/
def GS (c : Dev nD) : Vec Ideal S8192x1024 .f32 := fun j =>
  have hj : (j 0).val < 8192 := (j 0).isLt
  ffnRow
    (fun k => m ((c.tc : Thread nD τ).loc main_arg1)
      (ix3 ⟨(j 0).val / 1024, by omega⟩ ⟨(j 0).val % 1024, by omega⟩ k))
    (fun k => m ((c.tc : Thread nD τ).loc main_arg3) (ix2 0 k))
    (fun k => m ((c.tc : Thread nD τ).loc main_arg2) (ix2 ⟨(j 0).val / 1024, by omega⟩ ⟨4096 + k.val, by omega⟩))
    (fun k => m ((c.tc : Thread nD τ).loc main_arg2) (ix2 ⟨(j 0).val / 1024, by omega⟩ ⟨3072 + k.val, by omega⟩))
    (fun k => m ((c.tc : Thread nD τ).loc main_arg2) (ix2 ⟨(j 0).val / 1024, by omega⟩ ⟨5120 + k.val, by omega⟩))
    (fun k p => m ((c.tc : Thread nD τ).loc main_arg4) (ix3 0 k p))
    (fun p k => m ((c.tc : Thread nD τ).loc main_arg5) (ix3 0 p k)) (j 1)

/-- A prompt tile is its rows of the prompt result. -/
theorem outA_at (c : Dev nD) (t : Fin cfg0.N) (ht : t.val < 8) (r : Fin 512) (q : Fin 1024) :
    outA m c t (ix2 r q) = GP m c (ix2 ⟨512 * t.val + r.val, by omega⟩ q) := by
  unfold outA GP
  rw [tileA_at]
  simp only [modA_at, x0_at m c t ht, x2_at, x3_at, WG_at, WD_at, if_pos ht, ← Nat.add_assoc, Nat.reduceAdd]
  rfl

/-- A sample tile is its rows of the sample result. -/
theorem outB_at (c : Dev nD) (t : Fin cfg0.N) (ht : 8 ≤ t.val) (r : Fin 512) (q : Fin 1024) :
    outB m c t (ix2 r q) = GS m c (ix2 ⟨512 * (t.val - 8) + r.val,
      by have := t.isLt; have : cfg0.N = 24 := rfl; omega⟩ q) := by
  have h : k0_cond3 (grid0.coords t) = 1#1 := (cond2_iff t).mpr ht
  have hn : ¬ t.val < 8 := by omega
  have e : (512 * (t.val - 8) + r.val) / 1024 = (t.val - 8) / 2 := by omega
  unfold outB GS
  rw [dif_pos h, tileB_at]
  simp only [modB_at, x1_at m c t ht, x2_at, x3_at, WG_at, WD_at, if_neg hn, ← Nat.add_assoc, Nat.reduceAdd,
    Nat.zero_add]
  have eb : (⟨(t.val - 8) / 2, by have := t.isLt; have : cfg0.N = 24 := rfl; omega⟩ : Fin 16)
      = ⟨(512 * (t.val - 8) + r.val) / 1024, by have := t.isLt; have : cfg0.N = 24 := rfl; omega⟩ := Fin.ext e.symm
  simp only [eb]
  rfl

/-- The prompt result after the run. -/
theorem final4 (c : Dev nD) : (dats m 0 c).arrAt 4 cfg0.N = GP m c := by
  refine (dats m 0 c).arrAt_eq_of_covers 4 (GP m c) (by decide +kernel) fun t hf y => ?_
  have hf' := (flush4_iff t).mp hf
  blk_simp
  rw [after0_4]
  idx_vars y
  refine (outA_at m c (pt t) (by show min t.val 7 < 8; omega) _ _).trans ?_
  have hp : (pt t).val = min t.val 7 := rfl
  blk_ext [idx t, hp]

/-- The sample result after the run. -/
theorem final5 (c : Dev nD) : (dats m 0 c).arrAt 5 cfg0.N = GS m c := by
  refine (dats m 0 c).arrAt_eq_of_covers 5 (GS m c) (by decide +kernel) fun t hf y => ?_
  have hf' := (flush5_iff t).mp hf
  blk_simp
  rw [after0_5]
  idx_vars y
  refine (outB_at m c t hf' _ _).trans ?_
  blk_ext [idx t]

/-- The run with both results at their functions of the arguments. -/
theorem run : θ_run defs (onTc (τ := τ) (main (F := Ideal))) ⟨m, fun _ => 0, ρ⟩ fun r => ∀ c : Dev nD,
      r.2.mem ((c.tc : Thread nD τ).loc main_v6_0) = GP m c
      ∧ r.2.mem ((c.tc : Thread nD τ).loc main_v6_1) = GS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h.1 c).1 4).trans (final4 m c), ((h.1 c).1 5).trans (final5 m c),
      (((h.1 c).2 main_arg0 (Pipeline.mem_restRefs_of main_arg0 (by decide) (by decide))).trans (V_main_arg0 m c)),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_quiescent m ρ)

end Cert.FfnIdeal.Val

end
-- ==== Proof.FfnRef.lean ====
module

public import proofs.«01_k».proof.Proof.Gen.FfnRefIdeal.Run
public import proofs.«01_k».proof.Proof.FfnSpec
public import proofs.«01_k».proof.Proof.FfnSpec
public import Idealize.ShloMosaic.Lib.Pointwise
public import Idealize.ShloMosaic.Lib.Pipeline.Value

@[expose] public section

set_option maxRecDepth 16384

noncomputable section

namespace Cert.FfnRefIdeal.Val

open Cert.FfnRefIdeal Cert.FfnRefIdeal.Gen Cert.FfnRefIdeal.Value Cert.FfnSpec
open Idealize.ShloMosaic Idealize.ShloMosaic.TcCoe Idealize.ShloMosaic.Tactic Idealize.ShloMosaic.StableHlo

variable {F : FTy → Type} [FloatOps F]

/-- The normalised, modulated prompt rows. -/
def hidP (m : (ℓ : Loc nD τ sig) → Buf (Elt F) ℓ) (c : Dev nD) : Vec F S16x256x1024 .f32 :=
  addf (mulf (mulf (mulf (m ((c.tc : Thread nD τ).loc main_arg0)) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (m ((c.tc : Thread nD τ).loc main_arg0)) (m ((c.tc : Thread nD τ).loc main_arg0))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (m ((c.tc : Thread nD τ).loc main_arg3)) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 4096] (broadcastInDim S1x1x6144 ![0, 2] bcast_S1x6144_S1x1x6144_0_2 (extractStridedSlice S1x6144 ![8, 0] (m ((c.tc : Thread nD τ).loc main_arg2)) slices_S16x6144_S1x6144_8_0)) slices_S1x1x6144_S1x1x1024_0_0_4096)))) (broadcastInDim S16x256x1024 ![0, 1, 2] bcast_S1x1x1024_S16x256x1024_0_1_2 (extractStridedSlice S1x1x1024 ![0, 0, 3072] (broadcastInDim S1x1x6144 ![0, 2] bcast_S1x6144_S1x1x6144_0_2 (extractStridedSlice S1x6144 ![8, 0] (m ((c.tc : Thread nD τ).loc main_arg2)) slices_S16x6144_S1x6144_8_0)) slices_S1x1x6144_S1x1x1024_0_0_3072))

/-- Their gate and up projections, side by side. -/
def guP (m : (ℓ : Loc nD τ sig) → Buf (Elt F) ℓ) (c : Dev nD) : Vec F S16x256x5632 .f32 :=
  Host.dotGeneral dot_S16x256x1024_S1024x5632_S16x256x5632_2_0_01_1_n_n none (hidP m c) (shapeCast _ (m ((c.tc : Thread nD τ).loc main_arg4)) shapeCasts_S1x1024x5632_S1024x5632)

/-- The gated activations. -/
def actP (m : (ℓ : Loc nD τ sig) → Buf (Elt F) ℓ) (c : Dev nD) : Vec F S16x256x2816 .f32 :=
  mulf (mulf (extractStridedSlice S16x256x2816 ![0, 0, 0] (guP m c) slices_S16x256x5632_S16x256x2816_0_0_0) (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf (extractStridedSlice S16x256x2816 ![0, 0, 0] (guP m c) slices_S16x256x5632_S16x256x2816_0_0_0)))))) (extractStridedSlice S16x256x2816 ![0, 0, 2816] (guP m c) slices_S16x256x5632_S16x256x2816_0_0_2816)

set_option maxHeartbeats 1000000 in
/-- The prompt result through these. -/
theorem res78_eq (m : (ℓ : Loc nD τ sig) → Buf (Elt F) ℓ) (c : Dev nD) : res_main_v78 m c =
  shapeCast _ (addf (m ((c.tc : Thread nD τ).loc main_arg0)) (mulf (broadcastInDim S16x256x1024 ![0, 1, 2] bcast_S1x1x1024_S16x256x1024_0_1_2 (extractStridedSlice S1x1x1024 ![0, 0, 5120] (broadcastInDim S1x1x6144 ![0, 2] bcast_S1x6144_S1x1x6144_0_2 (extractStridedSlice S1x6144 ![8, 0] (m ((c.tc : Thread nD τ).loc main_arg2)) slices_S16x6144_S1x6144_8_0)) slices_S1x1x6144_S1x1x1024_0_0_5120)) (Host.dotGeneral dot_S16x256x2816_S2816x1024_S16x256x1024_2_0_01_1_n_n none (actP m c) (shapeCast _ (m ((c.tc : Thread nD τ).loc main_arg5)) shapeCasts_S1x2816x1024_S2816x1024)))) shapeCasts_S16x256x1024_S4096x1024 := by
  unfold res_main_v78; rfl

/-- The normalised, modulated sample rows. -/
def hidS (m : (ℓ : Loc nD τ sig) → Buf (Elt F) ℓ) (c : Dev nD) : Vec F S8x1024x1024 .f32 :=
  addf (mulf (mulf (mulf (m ((c.tc : Thread nD τ).loc main_arg1)) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (m ((c.tc : Thread nD τ).loc main_arg1)) (m ((c.tc : Thread nD τ).loc main_arg1))) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (m ((c.tc : Thread nD τ).loc main_arg3)) shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 (extractStridedSlice S8x6144 ![0, 0] (m ((c.tc : Thread nD τ).loc main_arg2)) slices_S16x6144_S8x6144_0_0)) slices_S8x1x6144_S8x1x1024_0_0_4096)))) (broadcastInDim S8x1024x1024 ![0, 1, 2] bcast_S8x1x1024_S8x1024x1024_0_1_2 (extractStridedSlice S8x1x1024 ![0, 0, 3072] (broadcastInDim S8x1x6144 ![0, 2] bcast_S8x6144_S8x1x6144_0_2 (extractStridedSlice S8x6144 ![0, 0] (m ((c.tc : Thread nD τ).loc main_arg2)) slices_S16x6144_S8x6144_0_0)) slices_S8x1x6144_S8x1x1024_0_0_3072))

/-- Their gate and up projections, side by side. -/
def guS (m : (ℓ : Loc nD τ sig) → Buf (Elt F) ℓ) (c : Dev nD) : Vec F S8x1024x5632 .f32 :=
  Host.dotGeneral dot_S8x1024x1024_S1024x5632_S8x1024x5632_2_0_01_1_n_n none (hidS m c) (shapeCast _ (m ((c.tc : Thread nD τ).loc main_arg4)) shapeCasts_S1x1024x5632_S1024x5632)

/-- The gated activations. -/
def actS (m : (ℓ : Loc nD τ sig) → Buf (Elt F) ℓ) (c : Dev nD) : Vec F S8x1024x2816 .f32 :=
  mulf (mulf (extractStridedSlice S8x1024x2816 ![0, 0, 0] (guS m c) slices_S8x1024x5632_S8x1024x2816_0_0_0) (Host.divf (broadcastInDim S8x1024x2816 ![] bcast_S_S8x1024x2816 (constant S_ .f32 0x3F800000#32)) (addf (broadcastInDim S8x1024x2816 ![] bcast_S_S8x1024x2816 (constant S_ .f32 0x3F800000#32)) (Host.exp (Host.negf (extractStridedSlice S8x1024x2816 ![0, 0, 0] (guS m c) slices_S8x1024x5632_S8x1024x2816_0_0_0)))))) (extractStridedSlice S8x1024x2816 ![0, 0, 2816] (guS m c) slices_S8x1024x5632_S8x1024x2816_0_0_2816)

set_option maxHeartbeats 1000000 in
/-- The sample result through these. -/
theorem res79_eq (m : (ℓ : Loc nD τ sig) → Buf (Elt F) ℓ) (c : Dev nD) : res_main_v79 m c =
  shapeCast _ (addf (m ((c.tc : Thread nD τ).loc main_arg1)) (mulf (broadcastInDim S8x1024x1024 ![0, 1, 2] bcast_S8x1x1024_S8x1024x1024_0_1_2 (extractStridedSlice S8x1x1024 ![0, 0, 5120] (broadcastInDim S8x1x6144 ![0, 2] bcast_S8x6144_S8x1x6144_0_2 (extractStridedSlice S8x6144 ![0, 0] (m ((c.tc : Thread nD τ).loc main_arg2)) slices_S16x6144_S8x6144_0_0)) slices_S8x1x6144_S8x1x1024_0_0_5120)) (Host.dotGeneral dot_S8x1024x2816_S2816x1024_S8x1024x1024_2_0_01_1_n_n none (actS m c) (shapeCast _ (m ((c.tc : Thread nD τ).loc main_arg5)) shapeCasts_S1x2816x1024_S2816x1024)))) shapeCasts_S8x1024x1024_S8192x1024 := by
  unfold res_main_v79; rfl

/-- The gate-and-up matrix without its leading unit axis. -/
theorem castWgu_at (w : S1x1024x5632.Idx → EReal) (k : Fin 1024) (p : Fin 5632) :
    shapeCast S1024x5632 w shapeCasts_S1x1024x5632_S1024x5632 (ix2 k p) = w (ix3 0 k p) :=
  shapeCast_apply w _ _ _ (by
    rw [Shape.rowMajor_val_three, Shape.rowMajor_val_two]
    show (0 * 1024 + k.val) * 5632 + p.val = k.val * 5632 + p.val
    omega)

/-- The down matrix without its leading unit axis. -/
theorem castWd_at (w : S1x2816x1024.Idx → EReal) (k : Fin 2816) (p : Fin 1024) :
    shapeCast S2816x1024 w shapeCasts_S1x2816x1024_S2816x1024 (ix2 k p) = w (ix3 0 k p) :=
  shapeCast_apply w _ _ _ (by
    rw [Shape.rowMajor_val_three, Shape.rowMajor_val_two]
    show (0 * 2816 + k.val) * 1024 + p.val = k.val * 1024 + p.val
    omega)

/-- One row of the normalised, modulated prompt activations. -/
theorem hidP_at (m : (ℓ : Loc nD τ sig) → Buf (Elt Ideal) ℓ) (c : Dev nD) (a : Fin 16) (b : Fin 256) (k : Fin 1024) :
    hidP m c (ix3 a b k) = hidRow (fun k => m ((c.tc : Thread nD τ).loc main_arg0) (ix3 a b k))
      (fun k => m ((c.tc : Thread nD τ).loc main_arg3) (ix2 0 k))
      (fun k => m ((c.tc : Thread nD τ).loc main_arg2) (ix2 8 ⟨4096 + k.val, by omega⟩))
      (fun k => m ((c.tc : Thread nD τ).loc main_arg2) (ix2 8 ⟨3072 + k.val, by omega⟩)) k := by
  pointwise [hidP]
  rfl

/-- The projections of any prompt rows, read at an index. -/
theorem dotGuP_at (h : FVec Ideal S16x256x1024 .f32) (w : FVec Ideal S1024x5632 .f32) (a : Fin 16) (b : Fin 256) (p : Fin 5632) :
    Host.dotGeneral dot_S16x256x1024_S1024x5632_S16x256x5632_2_0_01_1_n_n none h w (ix3 a b p)
      = ∑ k : Fin 1024, h (ix3 a b k) * w (ix2 k p) := by
  pointwise []

/-- The down projection of any prompt activations, read at an index. -/
theorem dotDnP_at (h : FVec Ideal S16x256x2816 .f32) (w : FVec Ideal S2816x1024 .f32) (a : Fin 16) (b : Fin 256) (p : Fin 1024) :
    Host.dotGeneral dot_S16x256x2816_S2816x1024_S16x256x1024_2_0_01_1_n_n none h w (ix3 a b p)
      = ∑ k : Fin 2816, h (ix3 a b k) * w (ix2 k p) := by
  pointwise []

/-- The gate and up projections of one prompt row. -/
theorem guP_at (m : (ℓ : Loc nD τ sig) → Buf (Elt Ideal) ℓ) (c : Dev nD) (a : Fin 16) (b : Fin 256) (p : Fin 5632) :
    guP m c (ix3 a b p) = proj (fun k => hidP m c (ix3 a b k))
      (fun k p => m ((c.tc : Thread nD τ).loc main_arg4) (ix3 0 k p)) p := by
  unfold guP proj
  rw [dotGuP_at]
  refine Finset.sum_congr rfl fun k _ => ?_
  rw [castWgu_at]

/-- The gated activations of one prompt row. -/
theorem actP_at (m : (ℓ : Loc nD τ sig) → Buf (Elt Ideal) ℓ) (c : Dev nD) (a : Fin 16) (b : Fin 256) (p : Fin 2816) :
    actP m c (ix3 a b p) = actRow (fun k => hidP m c (ix3 a b k))
      (fun k p => m ((c.tc : Thread nD τ).loc main_arg4) (ix3 0 k p)) p := by
  unfold actRow
  rw [← guP_at, ← guP_at]
  pointwise [actP]
  rfl

/-- One row of the normalised, modulated sample activations. -/
theorem hidS_at (m : (ℓ : Loc nD τ sig) → Buf (Elt Ideal) ℓ) (c : Dev nD) (a : Fin 8) (b : Fin 1024) (k : Fin 1024) :
    hidS m c (ix3 a b k) = hidRow (fun k => m ((c.tc : Thread nD τ).loc main_arg1) (ix3 a b k))
      (fun k => m ((c.tc : Thread nD τ).loc main_arg3) (ix2 0 k))
      (fun k => m ((c.tc : Thread nD τ).loc main_arg2) (ix2 ⟨a.val, by omega⟩ ⟨4096 + k.val, by omega⟩))
      (fun k => m ((c.tc : Thread nD τ).loc main_arg2) (ix2 ⟨a.val, by omega⟩ ⟨3072 + k.val, by omega⟩)) k := by
  pointwise [hidS]
  rfl

/-- The projections of any sample rows, read at an index. -/
theorem dotGuS_at (h : FVec Ideal S8x1024x1024 .f32) (w : FVec Ideal S1024x5632 .f32) (a : Fin 8) (b : Fin 1024) (p : Fin 5632) :
    Host.dotGeneral dot_S8x1024x1024_S1024x5632_S8x1024x5632_2_0_01_1_n_n none h w (ix3 a b p)
      = ∑ k : Fin 1024, h (ix3 a b k) * w (ix2 k p) := by
  pointwise []

/-- The down projection of any sample activations, read at an index. -/
theorem dotDnS_at (h : FVec Ideal S8x1024x2816 .f32) (w : FVec Ideal S2816x1024 .f32) (a : Fin 8) (b : Fin 1024) (p : Fin 1024) :
    Host.dotGeneral dot_S8x1024x2816_S2816x1024_S8x1024x1024_2_0_01_1_n_n none h w (ix3 a b p)
      = ∑ k : Fin 2816, h (ix3 a b k) * w (ix2 k p) := by
  pointwise []

/-- The gate and up projections of one sample row. -/
theorem guS_at (m : (ℓ : Loc nD τ sig) → Buf (Elt Ideal) ℓ) (c : Dev nD) (a : Fin 8) (b : Fin 1024) (p : Fin 5632) :
    guS m c (ix3 a b p) = proj (fun k => hidS m c (ix3 a b k))
      (fun k p => m ((c.tc : Thread nD τ).loc main_arg4) (ix3 0 k p)) p := by
  unfold guS proj
  rw [dotGuS_at]
  refine Finset.sum_congr rfl fun k _ => ?_
  rw [castWgu_at]

/-- The gated activations of one sample row. -/
theorem actS_at (m : (ℓ : Loc nD τ sig) → Buf (Elt Ideal) ℓ) (c : Dev nD) (a : Fin 8) (b : Fin 1024) (p : Fin 2816) :
    actS m c (ix3 a b p) = actRow (fun k => hidS m c (ix3 a b k))
      (fun k p => m ((c.tc : Thread nD τ).loc main_arg4) (ix3 0 k p)) p := by
  unfold actRow
  rw [← guS_at, ← guS_at]
  pointwise [actS]
  rfl

end Cert.FfnRefIdeal.Val

end
-- ==== Proof.FfnRefOut.lean ====
module

public import proofs.«01_k».proof.Proof.FfnRef

@[expose] public section

set_option maxRecDepth 16384

noncomputable section

namespace Cert.FfnRefIdeal.Val

open Cert.FfnRefIdeal Cert.FfnRefIdeal.Gen Cert.FfnRefIdeal.Value Cert.FfnSpec
open Idealize.ShloMosaic Idealize.ShloMosaic.TcCoe Idealize.ShloMosaic.Tactic Idealize.ShloMosaic.StableHlo

/-- The prompt rows laid end to end. -/
theorem castP_at (x : S16x256x1024.Idx → EReal) (r : Fin 4096) (q : Fin 1024) :
    shapeCast S4096x1024 x shapeCasts_S16x256x1024_S4096x1024 (ix2 r q)
      = x (ix3 ⟨r.val / 256, by omega⟩ ⟨r.val % 256, by omega⟩ q) :=
  shapeCast_apply x _ _ _ (by
    rw [Shape.rowMajor_val_three, Shape.rowMajor_val_two]
    show (r.val / 256 * 256 + r.val % 256) * 1024 + q.val = r.val * 1024 + q.val
    omega)

/-- The gated residual of the prompt rows, read at an index. -/
theorem residP_at (x : FVec Ideal S16x256x1024 .f32) (md : FVec Ideal S16x6144 .f32) (d : FVec Ideal S16x256x1024 .f32)
    (a : Fin 16) (b : Fin 256) (q : Fin 1024) :
    addf x (mulf (broadcastInDim S16x256x1024 ![0, 1, 2] bcast_S1x1x1024_S16x256x1024_0_1_2 (extractStridedSlice S1x1x1024 ![0, 0, 5120] (broadcastInDim S1x1x6144 ![0, 2] bcast_S1x6144_S1x1x6144_0_2 (extractStridedSlice S1x6144 ![8, 0] md slices_S16x6144_S1x6144_8_0)) slices_S1x1x6144_S1x1x1024_0_0_5120)) d) (ix3 a b q)
      = x (ix3 a b q) + md (ix2 8 ⟨5120 + q.val, by omega⟩) * d (ix3 a b q) := by
  pointwise []

/-- The prompt result at every row and column: the feed-forward of that row. -/
theorem v78_at (m : (ℓ : Loc nD τ sig) → Buf (Elt Ideal) ℓ) (c : Dev nD) (r : Fin 4096) (q : Fin 1024) :
    res_main_v78 m c (ix2 r q) = ffnRow
      (fun k => m ((c.tc : Thread nD τ).loc main_arg0) (ix3 ⟨r.val / 256, by omega⟩ ⟨r.val % 256, by omega⟩ k))
      (fun k => m ((c.tc : Thread nD τ).loc main_arg3) (ix2 0 k))
      (fun k => m ((c.tc : Thread nD τ).loc main_arg2) (ix2 8 ⟨4096 + k.val, by omega⟩))
      (fun k => m ((c.tc : Thread nD τ).loc main_arg2) (ix2 8 ⟨3072 + k.val, by omega⟩))
      (fun k => m ((c.tc : Thread nD τ).loc main_arg2) (ix2 8 ⟨5120 + k.val, by omega⟩))
      (fun k p => m ((c.tc : Thread nD τ).loc main_arg4) (ix3 0 k p))
      (fun p k => m ((c.tc : Thread nD τ).loc main_arg5) (ix3 0 p k)) q := by
  rw [res78_eq, castP_at, residP_at, dotDnP_at]
  unfold ffnRow
  simp only [castWd_at, actP_at, hidP_at]

/-- The sample rows laid end to end. -/
theorem castS_at (x : S8x1024x1024.Idx → EReal) (r : Fin 8192) (q : Fin 1024) :
    shapeCast S8192x1024 x shapeCasts_S8x1024x1024_S8192x1024 (ix2 r q)
      = x (ix3 ⟨r.val / 1024, by omega⟩ ⟨r.val % 1024, by omega⟩ q) :=
  shapeCast_apply x _ _ _ (by
    rw [Shape.rowMajor_val_three, Shape.rowMajor_val_two]
    show (r.val / 1024 * 1024 + r.val % 1024) * 1024 + q.val = r.val * 1024 + q.val
    omega)

/-- The gated residual of the sample rows, read at an index. -/
theorem residS_at (x : FVec Ideal S8x1024x1024 .f32) (md : FVec Ideal S16x6144 .f32) (d : FVec Ideal S8x1024x1024 .f32)
    (a : Fin 8) (b : Fin 1024) (q : Fin 1024) :
    addf x (mulf (broadcastInDim S8x1024x1024 ![0, 1, 2] bcast_S8x1x1024_S8x1024x1024_0_1_2 (extractStridedSlice S8x1x1024 ![0, 0, 5120] (broadcastInDim S8x1x6144 ![0, 2] bcast_S8x6144_S8x1x6144_0_2 (extractStridedSlice S8x6144 ![0, 0] md slices_S16x6144_S8x6144_0_0)) slices_S8x1x6144_S8x1x1024_0_0_5120)) d) (ix3 a b q)
      = x (ix3 a b q) + md (ix2 ⟨a.val, by omega⟩ ⟨5120 + q.val, by omega⟩) * d (ix3 a b q) := by
  pointwise []

/-- The sample result at every row and column: the feed-forward of that row. -/
theorem v79_at (m : (ℓ : Loc nD τ sig) → Buf (Elt Ideal) ℓ) (c : Dev nD) (r : Fin 8192) (q : Fin 1024) :
    res_main_v79 m c (ix2 r q) = ffnRow
      (fun k => m ((c.tc : Thread nD τ).loc main_arg1) (ix3 ⟨r.val / 1024, by omega⟩ ⟨r.val % 1024, by omega⟩ k))
      (fun k => m ((c.tc : Thread nD τ).loc main_arg3) (ix2 0 k))
      (fun k => m ((c.tc : Thread nD τ).loc main_arg2) (ix2 ⟨r.val / 1024, by omega⟩ ⟨4096 + k.val, by omega⟩))
      (fun k => m ((c.tc : Thread nD τ).loc main_arg2) (ix2 ⟨r.val / 1024, by omega⟩ ⟨3072 + k.val, by omega⟩))
      (fun k => m ((c.tc : Thread nD τ).loc main_arg2) (ix2 ⟨r.val / 1024, by omega⟩ ⟨5120 + k.val, by omega⟩))
      (fun k p => m ((c.tc : Thread nD τ).loc main_arg4) (ix3 0 k p))
      (fun p k => m ((c.tc : Thread nD τ).loc main_arg5) (ix3 0 p k)) q := by
  rw [res79_eq, castS_at, residS_at, dotDnS_at]
  unfold ffnRow
  simp only [castWd_at, actS_at, hidS_at]

end Cert.FfnRefIdeal.Val

end
-- ==== Proof.MixBlock.lean ====
module

public import proofs.«01_k».proof.Proof.FfnBlock
public import proofs.«01_k».proof.Proof.Gen.MixIdeal.Skeleton
public import Idealize.ShloMosaic.Lib.Pointwise

@[expose] public section

set_option maxRecDepth 16384

noncomputable section

namespace Cert.MixIdeal.Val

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Val (ld read_writes_of_agree)
open Idealize.ShloMosaic.Pipeline (Dat Cfg Window BodyObligation cellOf)

variable {F : FTy → Type} [FloatOps F]

/-! ## What one grid point of the prompt's mixer writes to the two key and value outputs

A grid point takes four prompts of 256 tokens each, as one tile of 1024 rows, and works on it in two halves of 512 rows. -/

/-- The first row of the modulation table: the prompt's. -/
def mrow (x2 : Vec F S8x3072 .f32) : Vec F S1x3072 .f32 :=
  ld x2 (Rect.unit (s := S8x3072) ![0, 0] S1x3072.size inb_S8x3072_S1x3072_0_0).toLoadRect
/-- The first half of the tile. -/
def xlo (x1 : Vec F S1x1024x1024 .f32) : Vec F S1x512x1024 .f32 :=
  ld x1 (Rect.unit (s := S1x1024x1024) ![0, 0, 0] S1x512x1024.size inb_S1x1024x1024_S1x512x1024_0_0_0).toLoadRect
/-- The second half of the tile. -/
def xhi (x1 : Vec F S1x1024x1024 .f32) : Vec F S1x512x1024 .f32 :=
  ld x1 (Rect.unit (s := S1x1024x1024) ![0, 512, 0] S1x512x1024.size inb_S1x1024x1024_S1x512x1024_0_512_0).toLoadRect
/-- The columns of the projection that make queries, keys and values. -/
def wqkv (x4 : Vec F S1024x2304 .bf16) : Vec F S1024x768 .bf16 :=
  ld x4 (Rect.unit (s := S1024x2304) ![0, 0] S1024x768.size inb_S1024x2304_S1024x768_0_0).toLoadRect

/-- Queries, keys and values of the first half. -/
def projLo (x1 : Vec F S1x1024x1024 .f32) (x2 : Vec F S8x3072 .f32) (x3 : Vec F S1x1024 .f32) (x4 : Vec F S1024x2304 .bf16) : FVec F S512x768 .f32 :=
  k0_pay121 (k0_pay100 (mrow x2)) (k0_pay101 (mrow x2)) (k0_pay117 (xlo x1)) (k0_pay118 (xlo x1)) (k0_pay119 (F := F)) x3 (wqkv x4)
/-- Normalised queries and keys of the first half, before the gain. -/
def normLo (x1 : Vec F S1x1024x1024 .f32) (x2 : Vec F S8x3072 .f32) (x3 : Vec F S1x1024 .f32) (x4 : Vec F S1024x2304 .bf16) (x5 : Vec F S256x256 .bf16) : FVec F S512x640 .f32 :=
  k0_pay122 (k0_pay100 (mrow x2)) (k0_pay101 (mrow x2)) (k0_pay117 (xlo x1)) (k0_pay118 (xlo x1)) (k0_pay119 (F := F)) x3 (wqkv x4) x5 x5 x5
/-- The normalised, scaled rows of the second half. -/
def actHi (x1 : Vec F S1x1024x1024 .f32) (x2 : Vec F S8x3072 .f32) (x3 : Vec F S1x1024 .f32) : FVec F S512x1024 .f32 :=
  k0_pay156 (k0_pay101 (mrow x2)) (xhi x1) x3
/-- The shift, once for each row of the second half. -/
def shiftHi (x2 : Vec F S8x3072 .f32) : FVec F S512x1024 .f32 :=
  k0_pay157 (k0_pay100 (mrow x2))
/-- The values of the second half. -/
def valHi (x1 : Vec F S1x1024x1024 .f32) (x2 : Vec F S8x3072 .f32) (x3 : Vec F S1x1024 .f32) (x4 : Vec F S1024x2304 .bf16) : FVec F S512x128 .f32 :=
  k0_pay161 (actHi x1 x2 x3) (shiftHi x2) (wqkv x4)

/-- Four prompts' blocks as one. -/
def fill4 (p0 p1 p2 p3 : Vec F S1x1x2x64x256 .f32) : Vec F S4x1x2x64x256 .f32 := fun j =>
  if (j 0).val = 0 then p0 (ix5 (0 : Fin 1) (j 1) (j 2) (j 3) (j 4))
  else if (j 0).val = 1 then p1 (ix5 (0 : Fin 1) (j 1) (j 2) (j 3) (j 4))
  else if (j 0).val = 2 then p2 (ix5 (0 : Fin 1) (j 1) (j 2) (j 3) (j 4))
  else p3 (ix5 (0 : Fin 1) (j 1) (j 2) (j 3) (j 4))

/-- The keys' output block. -/
def koBlk (x1 : Vec F S1x1024x1024 .f32) (x2 : Vec F S8x3072 .f32) (x3 : Vec F S1x1024 .f32) (x4 : Vec F S1024x2304 .bf16) (x5 : Vec F S256x256 .bf16) (x6 : Vec F S1x640 .f32) : Vec F S4x1x2x64x256 .f32 :=
  fill4 (k0_pay126 (normLo x1 x2 x3 x4 x5) (k0_pay123 x6)) (k0_pay127 (normLo x1 x2 x3 x4 x5) (k0_pay123 x6))
    (k0_pay162 (actHi x1 x2 x3) (shiftHi x2) (wqkv x4) x5 x5 x5 x6)
    (k0_pay164 (k0_pay163 (actHi x1 x2 x3) (shiftHi x2) (wqkv x4) x5 x5 x5 x6))
/-- The values' output block. -/
def voBlk (x1 : Vec F S1x1024x1024 .f32) (x2 : Vec F S8x3072 .f32) (x3 : Vec F S1x1024 .f32) (x4 : Vec F S1024x2304 .bf16) : Vec F S4x1x2x64x256 .f32 :=
  fill4 (k0_pay147 (k0_pay125 (projLo x1 x2 x3 x4))) (k0_pay152 (k0_pay148 (k0_pay125 (projLo x1 x2 x3 x4))))
    (k0_pay186 (k0_pay181 (valHi x1 x2 x3 x4))) (k0_pay191 (valHi x1 x2 x3 x4))

/-- Four stores, one for each prompt, leave the four blocks. -/
theorem fill4_read (v : View sig .tc .vmem S4x1x2x64x256 .f32) (f : v.ty.Contents (Elt F)) (p0 p1 p2 p3 : Vec F S1x1x2x64x256 .f32) :
    v.read (Elt F) (v.writes (Elt F) f
      [⟨Rect.unit (s := S4x1x2x64x256) ![3, 0, 0, 0, 0] S1x1x2x64x256.size inb_S4x1x2x64x256_S1x1x2x64x256_3_0_0_0_0, p3⟩,
       ⟨Rect.unit (s := S4x1x2x64x256) ![2, 0, 0, 0, 0] S1x1x2x64x256.size inb_S4x1x2x64x256_S1x1x2x64x256_2_0_0_0_0, p2⟩,
       ⟨Rect.unit (s := S4x1x2x64x256) ![1, 0, 0, 0, 0] S1x1x2x64x256.size inb_S4x1x2x64x256_S1x1x2x64x256_1_0_0_0_0, p1⟩,
       ⟨Rect.unit (s := S4x1x2x64x256) ![0, 0, 0, 0, 0] S1x1x2x64x256.size inb_S4x1x2x64x256_S1x1x2x64x256_0_0_0_0_0, p0⟩]) = fill4 p0 p1 p2 p3 := by
  have emb0 : ∀ (o : ℕ) (inb : ∀ a : Fin 5, (![o, 0, 0, 0, 0] : Fin 5 → ℕ) a + S1x1x2x64x256.size a ≤ S4x1x2x64x256.size a)
      (x : S1x1x2x64x256.Idx), (((Rect.unit (s := S4x1x2x64x256) ![o, 0, 0, 0, 0] S1x1x2x64x256.size inb).emb x) 0).val = o
        ∧ ix5 (0 : Fin 1) (((Rect.unit (s := S4x1x2x64x256) ![o, 0, 0, 0, 0] S1x1x2x64x256.size inb).emb x) 1)
          (((Rect.unit (s := S4x1x2x64x256) ![o, 0, 0, 0, 0] S1x1x2x64x256.size inb).emb x) 2)
          (((Rect.unit (s := S4x1x2x64x256) ![o, 0, 0, 0, 0] S1x1x2x64x256.size inb).emb x) 3)
          (((Rect.unit (s := S4x1x2x64x256) ![o, 0, 0, 0, 0] S1x1x2x64x256.size inb).emb x) 4) = x := by
    intro o inb x
    refine ⟨?_, ?_⟩
    · have h : (x 0).val < 1 := (x 0).isLt
      refine (Rect.emb_apply ..).trans ?_
      show o + 1 * (x 0).val = o
      omega
    · funext a
      have h : (x 0).val < 1 := (x 0).isLt
      fin_cases a
      · exact Fin.ext (by show 0 = (x 0).val; omega)
      all_goals
        refine Fin.ext ?_
        refine (Rect.emb_apply ..).trans ?_
        first
          | (show 0 + 1 * (x 1).val = (x 1).val; omega)
          | (show 0 + 1 * (x 2).val = (x 2).val; omega)
          | (show 0 + 1 * (x 3).val = (x 3).val; omega)
          | (show 0 + 1 * (x 4).val = (x 4).val; omega)
  funext y
  refine read_writes_of_agree v f (fill4 p0 p1 p2 p3) y _ ?_ ?_
  · intro p hp
    simp only [List.mem_cons, List.not_mem_nil, _root_.or_false] at hp
    rcases hp with rfl | rfl | rfl | rfl
    · intro x
      obtain ⟨h0, h1⟩ := emb0 3 inb_S4x1x2x64x256_S1x1x2x64x256_3_0_0_0_0 x
      have e : fill4 p0 p1 p2 p3 ((Rect.unit (s := S4x1x2x64x256) ![3, 0, 0, 0, 0] S1x1x2x64x256.size inb_S4x1x2x64x256_S1x1x2x64x256_3_0_0_0_0).emb x) = _ := (if_neg (by omega)).trans ((if_neg (by omega)).trans (if_neg (by omega)))
      exact (e.trans (congrArg p3 h1)).symm
    · intro x
      obtain ⟨h0, h1⟩ := emb0 2 inb_S4x1x2x64x256_S1x1x2x64x256_2_0_0_0_0 x
      have e : fill4 p0 p1 p2 p3 ((Rect.unit (s := S4x1x2x64x256) ![2, 0, 0, 0, 0] S1x1x2x64x256.size inb_S4x1x2x64x256_S1x1x2x64x256_2_0_0_0_0).emb x) = _ := (if_neg (by omega)).trans ((if_neg (by omega)).trans (if_pos h0))
      exact (e.trans (congrArg p2 h1)).symm
    · intro x
      obtain ⟨h0, h1⟩ := emb0 1 inb_S4x1x2x64x256_S1x1x2x64x256_1_0_0_0_0 x
      have e : fill4 p0 p1 p2 p3 ((Rect.unit (s := S4x1x2x64x256) ![1, 0, 0, 0, 0] S1x1x2x64x256.size inb_S4x1x2x64x256_S1x1x2x64x256_1_0_0_0_0).emb x) = _ := (if_neg (by omega)).trans (if_pos h0)
      exact (e.trans (congrArg p1 h1)).symm
    · intro x
      obtain ⟨h0, h1⟩ := emb0 0 inb_S4x1x2x64x256_S1x1x2x64x256_0_0_0_0_0 x
      have e : fill4 p0 p1 p2 p3 ((Rect.unit (s := S4x1x2x64x256) ![0, 0, 0, 0, 0] S1x1x2x64x256.size inb_S4x1x2x64x256_S1x1x2x64x256_0_0_0_0_0).emb x) = _ := if_pos h0
      exact (e.trans (congrArg p0 h1)).symm
  · have hy0 : (y 0).val < 4 := (y 0).isLt
    have hy1 : (y 1).val < 1 := (y 1).isLt
    have hy2 : (y 2).val < 2 := (y 2).isLt
    have hy3 : (y 3).val < 64 := (y 3).isLt
    have hy4 : (y 4).val < 256 := (y 4).isLt
    have key : ∀ (o : ℕ) (inb : ∀ a : Fin 5, (![o, 0, 0, 0, 0] : Fin 5 → ℕ) a + S1x1x2x64x256.size a ≤ S4x1x2x64x256.size a),
        (y 0).val = o → y ∈ (Rect.unit (s := S4x1x2x64x256) ![o, 0, 0, 0, 0] S1x1x2x64x256.size inb).set := by
      intro o inb h
      rw [Rect.mem_set_unit]
      intro a
      fin_cases a
      · exact ⟨h.symm.le, by show (y 0).val < o + 1; omega⟩
      · exact ⟨Nat.zero_le _, by show (y 1).val < 0 + 1; omega⟩
      · exact ⟨Nat.zero_le _, by show (y 2).val < 0 + 2; omega⟩
      · exact ⟨Nat.zero_le _, by show (y 3).val < 0 + 64; omega⟩
      · exact ⟨Nat.zero_le _, by show (y 4).val < 0 + 256; omega⟩
    rcases (by omega : (y 0).val = 0 ∨ (y 0).val = 1 ∨ (y 0).val = 2 ∨ (y 0).val = 3) with h | h | h | h
    · exact ⟨_, .tail _ (.tail _ (.tail _ (.head _))), key 0 inb_S4x1x2x64x256_S1x1x2x64x256_0_0_0_0_0 h⟩
    · exact ⟨_, .tail _ (.tail _ (.head _)), key 1 inb_S4x1x2x64x256_S1x1x2x64x256_1_0_0_0_0 h⟩
    · exact ⟨_, .tail _ (.head _), key 2 inb_S4x1x2x64x256_S1x1x2x64x256_2_0_0_0_0 h⟩
    · exact ⟨_, .head _, key 3 inb_S4x1x2x64x256_S1x1x2x64x256_3_0_0_0_0 h⟩

end Cert.MixIdeal.Val

end
-- ==== Proof.MixRunA.lean ====
module

public import proofs.«01_k».proof.Proof.MixBlock
public import proofs.«01_k».proof.Proof.Gen.MixIdeal.Loops
public import proofs.«01_k».proof.Proof.Gen.MixIdeal.Frame
public import Idealize.ShloMosaic.Lib.WholeRead
public import Idealize.ShloMosaic.Lib.VecWindow

@[expose] public section

set_option maxRecDepth 16384

noncomputable section

namespace Cert.MixIdeal.Val

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Val (ld read_writes_of_agree)
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A grid point whose attention is computed without the shift. -/
theorem kernelRun_A (c : Dev nD) (i : grid0.Coords) (arg1 : Memref sig .tc .vmem S1x1024x1024 .f32) (harg1 : arg1.IsWhole) (arg2 : Memref sig .tc .vmem S8x3072 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S256x256 .bf16) (harg5 : arg5.IsWhole) (arg6 : Memref sig .tc .vmem S1x640 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024x1024 .f32) (harg11 : arg11.IsWhole) (arg12 : Memref sig .tc .vmem S4x1x2x64x256 .f32) (harg12 : arg12.IsWhole) (arg13 : Memref sig .tc .vmem S4x1x2x64x256 .f32) (harg13 : arg13.IsWhole) (arg14 : Memref sig .tc .vmem S8x1024x64 .bf16) (harg14 : arg14.IsWhole) (arg15 : Memref sig .tc .vmem S2x1024x64 .bf16) (harg15 : arg15.IsWhole) (arg16 : Memref sig .tc .vmem S4x2x80x256 .bf16) (harg16 : arg16.IsWhole) (arg17 : Memref sig .tc .vmem S1024x512 .f32) (harg17 : arg17.IsWhole) (arg18 : Memref sig .tc .vmem S1040x512 .f32) (harg18 : arg18.IsWhole) (arg19 : Memref sig .tc .vmem S1024x512 .f32) (harg19 : arg19.IsWhole) (arg20 : Memref sig .tc .vmem S256x1024 .f32) (harg20 : arg20.IsWhole) (arg21 : Memref sig .tc .vmem S2x2x256x1024 .bf16) (harg21 : arg21.IsWhole)
    (x1 : Vec F S1x1024x1024 .f32) (x2 : Vec F S8x3072 .f32) (x3 : Vec F S1x1024 .f32) (x4 : Vec F S1024x2304 .bf16) (x5 : Vec F S256x256 .bf16) (x6 : Vec F S1x640 .f32) (x7 : Vec F S3x512 .f32) (x8 : Vec F S1x512 .f32) (x9 : Vec F S1x512 .f32) (x10 : Vec F S1024x1024 .bf16)
    (hb : (Scalar.cmpi .ne (Scalar.extui (Scalar.cmpf .ole (k0_pay196 (View.readAt (Elt F) arg6.view (Rect.unit (s := S1x640) ![0, 0] S1x640.size inb_S1x640_S1x640_0_0).toLoadRect (harg6.unread x6))) (Scalar.ofBits .f32 0x45800000#32 : F .f32)) : BitVec 32) 0#32 : BitVec 1) = 1#1)
    (hs : ¬(Scalar.cmpi .ne (Scalar.extui (Scalar.xori (Scalar.cmpf .ole (k0_pay196 (View.readAt (Elt F) arg6.view (Rect.unit (s := S1x640) ![0, 0] S1x640.size inb_S1x640_S1x640_0_0).toLoadRect (harg6.unread x6))) (Scalar.ofBits .f32 0x45800000#32 : F .f32)) 1#1) : BitVec 32) 0#32 : BitVec 1) = 1#1) :
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare (koBlk x1 x2 x3 x4 x5 x6) ∗ owns (c : Thread nD τ) arg13 fullShare (voBlk x1 x2 x3 x4) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ W', owes (c : Thread nD τ) 0 W')) -∗ K ⟨⟩))
          ⊢ wp frame (wpE (defs₀ (F := F)) Variants.none c none) Set.univ (cc0_mixer_ctx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro W K
    simp only [cc0_mixer_ctx_eq_skeleton]; unfold cc0_mixer_ctx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hb | sl_exact hs)
    sl_step
    have e3 : View.readAt (Elt F) arg3.view (Rect.unit (s := S1x1024) ![0, 0] S1x1024.size inb_S1x1024_S1x1024_0_0).toLoadRect (harg3.unread x3) = x3 :=
      (View.readAt_full _ _ _).trans (harg3.read_unread x3)
    have e5 : View.readAt (Elt F) arg5.view (Rect.unit (s := S256x256) ![0, 0] S256x256.size inb_S256x256_S256x256_0_0).toLoadRect (harg5.unread x5) = x5 :=
      (View.readAt_full _ _ _).trans (harg5.read_unread x5)
    have e6 : View.readAt (Elt F) arg6.view (Rect.unit (s := S1x640) ![0, 0] S1x640.size inb_S1x640_S1x640_0_0).toLoadRect (harg6.unread x6) = x6 :=
      (View.readAt_full _ _ _).trans (harg6.read_unread x6)
    have e2 : View.readAt (Elt F) arg2.view (Rect.unit (s := S8x3072) ![0, 0] S1x3072.size inb_S8x3072_S1x3072_0_0).toLoadRect (harg2.unread x2) = mrow x2 :=
      funext fun j => harg2.readAt_unread x2 _ j
    have e4 : View.readAt (Elt F) arg4.view (Rect.unit (s := S1024x2304) ![0, 0] S1024x768.size inb_S1024x2304_S1024x768_0_0).toLoadRect (harg4.unread x4) = wqkv x4 :=
      funext fun j => harg4.readAt_unread x4 _ j
    have e1 : View.readAt (Elt F) arg1.view (Rect.unit (s := S1x1024x1024) ![0, 0, 0] S1x512x1024.size inb_S1x1024x1024_S1x512x1024_0_0_0).toLoadRect (harg1.unread x1) = xlo x1 :=
      funext fun j => harg1.readAt_unread x1 _ j
    have e1' : View.readAt (Elt F) arg1.view (Rect.unit (s := S1x1024x1024) ![0, 512, 0] S1x512x1024.size inb_S1x1024x1024_S1x512x1024_0_512_0).toLoadRect (harg1.unread x1) = xhi x1 :=
      funext fun j => harg1.readAt_unread x1 _ j
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _; isplitr; swap; · iexact H12
      ipureintro
      refine (fill4_read _ _ _ _ _ _).trans ?_
      repeat
        first
          | unfold kernelRun_A.sl.r_28
          | unfold kernelRun_A.sl.r_27
          | unfold kernelRun_A.sl.r_26
          | unfold kernelRun_A.sl.r_25
          | unfold kernelRun_A.sl.r_24
          | unfold kernelRun_A.sl.r_23
          | unfold kernelRun_A.sl.r_22
          | unfold kernelRun_A.sl.r_21
          | unfold kernelRun_A.sl.r_20
          | unfold kernelRun_A.sl.r_19
          | unfold kernelRun_A.sl.r_18
          | unfold kernelRun_A.sl.r_17
          | unfold kernelRun_A.sl.r_16
          | unfold kernelRun_A.sl.r_15
          | unfold kernelRun_A.sl.r_14
          | unfold kernelRun_A.sl.r_13
          | unfold kernelRun_A.sl.r_12
          | unfold kernelRun_A.sl.r_11
          | unfold kernelRun_A.sl.r_10
          | unfold kernelRun_A.sl.r_9
          | unfold kernelRun_A.sl.r_8
          | unfold kernelRun_A.sl.r_7
          | unfold kernelRun_A.sl.r_6
          | unfold kernelRun_A.sl.r_5
          | unfold kernelRun_A.sl.r_4
          | unfold kernelRun_A.sl.r_3
          | unfold kernelRun_A.sl.r_2
          | unfold kernelRun_A.sl.r_1
          | unfold kernelRun_A.sl.r
      rw [e1, e1', e2, e3, e4, e5, e6]
      simp only [koBlk, normLo, actHi, shiftHi]
    isplitl [H13]
    · iexists _; isplitr; swap; · iexact H13
      ipureintro
      refine (fill4_read _ _ _ _ _ _).trans ?_
      repeat
        first
          | unfold kernelRun_A.sl.r_28
          | unfold kernelRun_A.sl.r_27
          | unfold kernelRun_A.sl.r_26
          | unfold kernelRun_A.sl.r_25
          | unfold kernelRun_A.sl.r_24
          | unfold kernelRun_A.sl.r_23
          | unfold kernelRun_A.sl.r_22
          | unfold kernelRun_A.sl.r_21
          | unfold kernelRun_A.sl.r_20
          | unfold kernelRun_A.sl.r_19
          | unfold kernelRun_A.sl.r_18
          | unfold kernelRun_A.sl.r_17
          | unfold kernelRun_A.sl.r_16
          | unfold kernelRun_A.sl.r_15
          | unfold kernelRun_A.sl.r_14
          | unfold kernelRun_A.sl.r_13
          | unfold kernelRun_A.sl.r_12
          | unfold kernelRun_A.sl.r_11
          | unfold kernelRun_A.sl.r_10
          | unfold kernelRun_A.sl.r_9
          | unfold kernelRun_A.sl.r_8
          | unfold kernelRun_A.sl.r_7
          | unfold kernelRun_A.sl.r_6
          | unfold kernelRun_A.sl.r_5
          | unfold kernelRun_A.sl.r_4
          | unfold kernelRun_A.sl.r_3
          | unfold kernelRun_A.sl.r_2
          | unfold kernelRun_A.sl.r_1
          | unfold kernelRun_A.sl.r
      rw [e1, e1', e2, e3, e4]
      simp only [voBlk, projLo, valHi, actHi, shiftHi]
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _; iexact HW

end Cert.MixIdeal.Val

end
-- ==== Proof.MixRunB.lean ====
module

public import proofs.«01_k».proof.Proof.MixBlock
public import proofs.«01_k».proof.Proof.Gen.MixIdeal.Loops
public import proofs.«01_k».proof.Proof.Gen.MixIdeal.Frame
public import Idealize.ShloMosaic.Lib.WholeRead
public import Idealize.ShloMosaic.Lib.VecWindow

@[expose] public section

set_option maxRecDepth 16384

noncomputable section

namespace Cert.MixIdeal.Val

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Val (ld read_writes_of_agree)
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A grid point whose attention is computed with the row maximum subtracted. -/
theorem kernelRun_B (c : Dev nD) (i : grid0.Coords) (arg1 : Memref sig .tc .vmem S1x1024x1024 .f32) (harg1 : arg1.IsWhole) (arg2 : Memref sig .tc .vmem S8x3072 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S256x256 .bf16) (harg5 : arg5.IsWhole) (arg6 : Memref sig .tc .vmem S1x640 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024x1024 .f32) (harg11 : arg11.IsWhole) (arg12 : Memref sig .tc .vmem S4x1x2x64x256 .f32) (harg12 : arg12.IsWhole) (arg13 : Memref sig .tc .vmem S4x1x2x64x256 .f32) (harg13 : arg13.IsWhole) (arg14 : Memref sig .tc .vmem S8x1024x64 .bf16) (harg14 : arg14.IsWhole) (arg15 : Memref sig .tc .vmem S2x1024x64 .bf16) (harg15 : arg15.IsWhole) (arg16 : Memref sig .tc .vmem S4x2x80x256 .bf16) (harg16 : arg16.IsWhole) (arg17 : Memref sig .tc .vmem S1024x512 .f32) (harg17 : arg17.IsWhole) (arg18 : Memref sig .tc .vmem S1040x512 .f32) (harg18 : arg18.IsWhole) (arg19 : Memref sig .tc .vmem S1024x512 .f32) (harg19 : arg19.IsWhole) (arg20 : Memref sig .tc .vmem S256x1024 .f32) (harg20 : arg20.IsWhole) (arg21 : Memref sig .tc .vmem S2x2x256x1024 .bf16) (harg21 : arg21.IsWhole)
    (x1 : Vec F S1x1024x1024 .f32) (x2 : Vec F S8x3072 .f32) (x3 : Vec F S1x1024 .f32) (x4 : Vec F S1024x2304 .bf16) (x5 : Vec F S256x256 .bf16) (x6 : Vec F S1x640 .f32) (x7 : Vec F S3x512 .f32) (x8 : Vec F S1x512 .f32) (x9 : Vec F S1x512 .f32) (x10 : Vec F S1024x1024 .bf16)
    (hb : ¬(Scalar.cmpi .ne (Scalar.extui (Scalar.cmpf .ole (k0_pay196 (View.readAt (Elt F) arg6.view (Rect.unit (s := S1x640) ![0, 0] S1x640.size inb_S1x640_S1x640_0_0).toLoadRect (harg6.unread x6))) (Scalar.ofBits .f32 0x45800000#32 : F .f32)) : BitVec 32) 0#32 : BitVec 1) = 1#1)
    (hs : (Scalar.cmpi .ne (Scalar.extui (Scalar.xori (Scalar.cmpf .ole (k0_pay196 (View.readAt (Elt F) arg6.view (Rect.unit (s := S1x640) ![0, 0] S1x640.size inb_S1x640_S1x640_0_0).toLoadRect (harg6.unread x6))) (Scalar.ofBits .f32 0x45800000#32 : F .f32)) 1#1) : BitVec 32) 0#32 : BitVec 1) = 1#1) :
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare (koBlk x1 x2 x3 x4 x5 x6) ∗ owns (c : Thread nD τ) arg13 fullShare (voBlk x1 x2 x3 x4) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ W', owes (c : Thread nD τ) 0 W')) -∗ K ⟨⟩))
          ⊢ wp frame (wpE (defs₀ (F := F)) Variants.none c none) Set.univ (cc0_mixer_ctx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro W K
    simp only [cc0_mixer_ctx_eq_skeleton]; unfold cc0_mixer_ctx_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hb | sl_exact hs)
    sl_step
    have e3 : View.readAt (Elt F) arg3.view (Rect.unit (s := S1x1024) ![0, 0] S1x1024.size inb_S1x1024_S1x1024_0_0).toLoadRect (harg3.unread x3) = x3 :=
      (View.readAt_full _ _ _).trans (harg3.read_unread x3)
    have e5 : View.readAt (Elt F) arg5.view (Rect.unit (s := S256x256) ![0, 0] S256x256.size inb_S256x256_S256x256_0_0).toLoadRect (harg5.unread x5) = x5 :=
      (View.readAt_full _ _ _).trans (harg5.read_unread x5)
    have e6 : View.readAt (Elt F) arg6.view (Rect.unit (s := S1x640) ![0, 0] S1x640.size inb_S1x640_S1x640_0_0).toLoadRect (harg6.unread x6) = x6 :=
      (View.readAt_full _ _ _).trans (harg6.read_unread x6)
    have e2 : View.readAt (Elt F) arg2.view (Rect.unit (s := S8x3072) ![0, 0] S1x3072.size inb_S8x3072_S1x3072_0_0).toLoadRect (harg2.unread x2) = mrow x2 :=
      funext fun j => harg2.readAt_unread x2 _ j
    have e4 : View.readAt (Elt F) arg4.view (Rect.unit (s := S1024x2304) ![0, 0] S1024x768.size inb_S1024x2304_S1024x768_0_0).toLoadRect (harg4.unread x4) = wqkv x4 :=
      funext fun j => harg4.readAt_unread x4 _ j
    have e1 : View.readAt (Elt F) arg1.view (Rect.unit (s := S1x1024x1024) ![0, 0, 0] S1x512x1024.size inb_S1x1024x1024_S1x512x1024_0_0_0).toLoadRect (harg1.unread x1) = xlo x1 :=
      funext fun j => harg1.readAt_unread x1 _ j
    have e1' : View.readAt (Elt F) arg1.view (Rect.unit (s := S1x1024x1024) ![0, 512, 0] S1x512x1024.size inb_S1x1024x1024_S1x512x1024_0_512_0).toLoadRect (harg1.unread x1) = xhi x1 :=
      funext fun j => harg1.readAt_unread x1 _ j
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _; isplitr; swap; · iexact H12
      ipureintro
      unfold kernelRun_B.sl.H12_4
      refine (fill4_read _ _ _ _ _ _).trans ?_
      repeat
        first
          | unfold kernelRun_B.sl.r_28
          | unfold kernelRun_B.sl.r_27
          | unfold kernelRun_B.sl.r_26
          | unfold kernelRun_B.sl.r_25
          | unfold kernelRun_B.sl.r_24
          | unfold kernelRun_B.sl.r_23
          | unfold kernelRun_B.sl.r_22
          | unfold kernelRun_B.sl.r_21
          | unfold kernelRun_B.sl.r_20
          | unfold kernelRun_B.sl.r_19
          | unfold kernelRun_B.sl.r_18
          | unfold kernelRun_B.sl.r_17
          | unfold kernelRun_B.sl.r_16
          | unfold kernelRun_B.sl.r_15
          | unfold kernelRun_B.sl.r_14
          | unfold kernelRun_B.sl.r_13
          | unfold kernelRun_B.sl.r_12
          | unfold kernelRun_B.sl.r_11
          | unfold kernelRun_B.sl.r_10
          | unfold kernelRun_B.sl.r_9
          | unfold kernelRun_B.sl.r_8
          | unfold kernelRun_B.sl.r_7
          | unfold kernelRun_B.sl.r_6
          | unfold kernelRun_B.sl.r_5
          | unfold kernelRun_B.sl.r_4
          | unfold kernelRun_B.sl.r_3
          | unfold kernelRun_B.sl.r_2
          | unfold kernelRun_B.sl.r_1
          | unfold kernelRun_B.sl.r
      rw [e1, e1', e2, e3, e4, e5, e6]
      simp only [koBlk, normLo, actHi, shiftHi]
    isplitl [H13]
    · iexists _; isplitr; swap; · iexact H13
      ipureintro
      unfold kernelRun_B.sl.H13_4
      refine (fill4_read _ _ _ _ _ _).trans ?_
      repeat
        first
          | unfold kernelRun_B.sl.r_28
          | unfold kernelRun_B.sl.r_27
          | unfold kernelRun_B.sl.r_26
          | unfold kernelRun_B.sl.r_25
          | unfold kernelRun_B.sl.r_24
          | unfold kernelRun_B.sl.r_23
          | unfold kernelRun_B.sl.r_22
          | unfold kernelRun_B.sl.r_21
          | unfold kernelRun_B.sl.r_20
          | unfold kernelRun_B.sl.r_19
          | unfold kernelRun_B.sl.r_18
          | unfold kernelRun_B.sl.r_17
          | unfold kernelRun_B.sl.r_16
          | unfold kernelRun_B.sl.r_15
          | unfold kernelRun_B.sl.r_14
          | unfold kernelRun_B.sl.r_13
          | unfold kernelRun_B.sl.r_12
          | unfold kernelRun_B.sl.r_11
          | unfold kernelRun_B.sl.r_10
          | unfold kernelRun_B.sl.r_9
          | unfold kernelRun_B.sl.r_8
          | unfold kernelRun_B.sl.r_7
          | unfold kernelRun_B.sl.r_6
          | unfold kernelRun_B.sl.r_5
          | unfold kernelRun_B.sl.r_4
          | unfold kernelRun_B.sl.r_3
          | unfold kernelRun_B.sl.r_2
          | unfold kernelRun_B.sl.r_1
          | unfold kernelRun_B.sl.r
      rw [e1, e1', e2, e3, e4]
      simp only [voBlk, projLo, valHi, actHi, shiftHi]
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    iexists _; iexact HW

end Cert.MixIdeal.Val

end
-- ==== Proof.MixRun.lean ====
module

public import proofs.«01_k».proof.Proof.MixRunA
public import proofs.«01_k».proof.Proof.MixRunB
public import proofs.«01_k».proof.Proof.Gen.MixIdeal.Loops
public import proofs.«01_k».proof.Proof.Gen.MixIdeal.Frame
public import Idealize.ShloMosaic.Lib.WholeRead
public import Idealize.ShloMosaic.Lib.VecWindow

@[expose] public section

set_option maxRecDepth 16384

noncomputable section

namespace Cert.MixIdeal.Val

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Val (ld read_writes_of_agree)
open Idealize.ShloMosaic.Pipeline (Dat Cfg Window BodyObligation cellOf)

variable {F : FTy → Type} [FloatOps F]

local notation "𝕄" => MT nD τ sig Unit (Elt F) ℕ (UR sig nD τ) ℕ

/-- Of the two branches exactly one is taken. -/
theorem branch_iff (b : BitVec 1) : ((Scalar.cmpi .ne (Scalar.extui b : BitVec 32) 0#32 : BitVec 1) = 1#1)
    ↔ ¬((Scalar.cmpi .ne (Scalar.extui (Scalar.xori b 1#1) : BitVec 32) 0#32 : BitVec 1) = 1#1) := by
  revert b; decide

/-- A whole grid point: both outputs are what the blocks say, whichever way the attention is computed. -/
theorem kernelRun (c : Dev nD) (i : grid0.Coords) (arg1 : Memref sig .tc .vmem S1x1024x1024 .f32) (harg1 : arg1.IsWhole) (arg2 : Memref sig .tc .vmem S8x3072 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S256x256 .bf16) (harg5 : arg5.IsWhole) (arg6 : Memref sig .tc .vmem S1x640 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1x1024x1024 .f32) (harg11 : arg11.IsWhole) (arg12 : Memref sig .tc .vmem S4x1x2x64x256 .f32) (harg12 : arg12.IsWhole) (arg13 : Memref sig .tc .vmem S4x1x2x64x256 .f32) (harg13 : arg13.IsWhole) (arg14 : Memref sig .tc .vmem S8x1024x64 .bf16) (harg14 : arg14.IsWhole) (arg15 : Memref sig .tc .vmem S2x1024x64 .bf16) (harg15 : arg15.IsWhole) (arg16 : Memref sig .tc .vmem S4x2x80x256 .bf16) (harg16 : arg16.IsWhole) (arg17 : Memref sig .tc .vmem S1024x512 .f32) (harg17 : arg17.IsWhole) (arg18 : Memref sig .tc .vmem S1040x512 .f32) (harg18 : arg18.IsWhole) (arg19 : Memref sig .tc .vmem S1024x512 .f32) (harg19 : arg19.IsWhole) (arg20 : Memref sig .tc .vmem S256x1024 .f32) (harg20 : arg20.IsWhole) (arg21 : Memref sig .tc .vmem S2x2x256x1024 .bf16) (harg21 : arg21.IsWhole)
    (x1 : Vec F S1x1024x1024 .f32) (x2 : Vec F S8x3072 .f32) (x3 : Vec F S1x1024 .f32) (x4 : Vec F S1024x2304 .bf16) (x5 : Vec F S256x256 .bf16) (x6 : Vec F S1x640 .f32) (x7 : Vec F S3x512 .f32) (x8 : Vec F S1x512 .f32) (x9 : Vec F S1x512 .f32) (x10 : Vec F S1024x1024 .bf16) :
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare (koBlk x1 x2 x3 x4 x5 x6) ∗ owns (c : Thread nD τ) arg13 fullShare (voBlk x1 x2 x3 x4) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ W', owes (c : Thread nD τ) 0 W')) -∗ K ⟨⟩))
          ⊢ wp frame (wpE (defs₀ (F := F)) Variants.none c none) Set.univ (cc0_mixer_ctx i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    by_cases h : (Scalar.cmpi .ne (Scalar.extui (Scalar.cmpf .ole (k0_pay196 (View.readAt (Elt F) arg6.view (Rect.unit (s := S1x640) ![0, 0] S1x640.size inb_S1x640_S1x640_0_0).toLoadRect (harg6.unread x6))) (Scalar.ofBits .f32 0x45800000#32 : F .f32)) : BitVec 32) 0#32 : BitVec 1) = 1#1
    · exact kernelRun_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h ((branch_iff _).1 h)
    · exact kernelRun_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h (not_not.1 fun h2 => h ((branch_iff _).2 h2))

end Cert.MixIdeal.Val

end
-- ==== Proof.MixDat.lean ====
module

public import proofs.«01_k».proof.Proof.MixRun
public import proofs.«01_k».proof.Proof.Gen.MixIdeal.Launch
public import proofs.«01_k».proof.Proof.Gen.MixIdeal.Points
public import proofs.«01_k».proof.Proof.Gen.MixIdeal.Frame
public import Idealize.ShloMosaic.Lib.Claim
public import Idealize.ShloMosaic.Lib.Pipeline.TableIdle

@[expose] public section

set_option maxRecDepth 16384

noncomputable section

namespace Cert.MixIdeal.Val

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal.Val (ld read_writes_of_agree)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The mixer's launch: keys and values named, the activations' window left unnamed -/

/-- The window of which nothing is said: the activations after the mixer. -/
def hush : Fin 13 → Bool := fun w => w.val == 10

/-- The keys of point `t`'s four prompts. -/
def kOut (c : Dev nD) (t : Fin cfg0.N) : Vec F S4x1x2x64x256 .f32 :=
  koBlk (iblk m c 0 t) (iblk m c 1 t) (iblk m c 2 t) (iblk m c 3 t) (iblk m c 4 t) (iblk m c 5 t)
/-- The values of point `t`'s four prompts. -/
def vOut (c : Dev nD) (t : Fin cfg0.N) : Vec F S4x1x2x64x256 .f32 :=
  voBlk (iblk m c 0 t) (iblk m c 1 t) (iblk m c 2 t) (iblk m c 3 t)

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) (10 : Fin 13) t
    | ⟨11, _⟩ => kOut m c t
    | ⟨12, _⟩ => vOut m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_11 (c : Dev nD) (t : Fin cfg0.N) : (dats m 0 c).after 11 t = kOut m c t := by dsimp only [dats]
theorem after0_12 (c : Dev nD) (t : Fin cfg0.N) : (dats m 0 c).after 12 t = vOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Each window's current staging memref. -/
abbrev ms0_0 (t : Fin cfg0.N) : Memref sig .tc .vmem S1x1024x1024 .f32 := win0_0.stage (cfg0.slots t 0)
abbrev ms0_1 (t : Fin cfg0.N) : Memref sig .tc .vmem S8x3072 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1024x2304 .bf16 := win0_3.stage (cfg0.slots t 3)
abbrev ms0_4 (t : Fin cfg0.N) : Memref sig .tc .vmem S256x256 .bf16 := win0_4.stage (cfg0.slots t 4)
abbrev ms0_5 (t : Fin cfg0.N) : Memref sig .tc .vmem S1x640 .f32 := win0_5.stage (cfg0.slots t 5)
abbrev ms0_6 (t : Fin cfg0.N) : Memref sig .tc .vmem S3x512 .f32 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S1x512 .f32 := win0_8.stage (cfg0.slots t 8)
abbrev ms0_9 (t : Fin cfg0.N) : Memref sig .tc .vmem S1024x1024 .bf16 := win0_9.stage (cfg0.slots t 9)
abbrev ms0_10 (t : Fin cfg0.N) : Memref sig .tc .vmem S1x1024x1024 .f32 := win0_10.stage (cfg0.slots t 10)
abbrev ms0_11 (t : Fin cfg0.N) : Memref sig .tc .vmem S4x1x2x64x256 .f32 := win0_11.stage (cfg0.slots t 11)
abbrev ms0_12 (t : Fin cfg0.N) : Memref sig .tc .vmem S4x1x2x64x256 .f32 := win0_12.stage (cfg0.slots t 12)

theorem leaves0_0 (c : Dev nD) (t : Fin cfg0.N) :
    (dats m 0 c).leavesExact 0 t = owns (c : Thread nD τ) (ms0_0 t) fullShare (iblk m c 0 t) := by
  unfold Dat.leavesExact
  rw [show cfg0.idle 0 (cfg0.grid.coords t) = false from rfl, after0_0]
theorem leaves0_1 (c : Dev nD) (t : Fin cfg0.N) :
    (dats m 0 c).leavesExact 1 t = owns (c : Thread nD τ) (ms0_1 t) fullShare (iblk m c 1 t) := by
  unfold Dat.leavesExact
  rw [show cfg0.idle 1 (cfg0.grid.coords t) = false from rfl, after0_1]
theorem leaves0_2 (c : Dev nD) (t : Fin cfg0.N) :
    (dats m 0 c).leavesExact 2 t = owns (c : Thread nD τ) (ms0_2 t) fullShare (iblk m c 2 t) := by
  unfold Dat.leavesExact
  rw [show cfg0.idle 2 (cfg0.grid.coords t) = false from rfl, after0_2]
theorem leaves0_3 (c : Dev nD) (t : Fin cfg0.N) :
    (dats m 0 c).leavesExact 3 t = owns (c : Thread nD τ) (ms0_3 t) fullShare (iblk m c 3 t) := by
  unfold Dat.leavesExact
  rw [show cfg0.idle 3 (cfg0.grid.coords t) = false from rfl, after0_3]
theorem leaves0_4 (c : Dev nD) (t : Fin cfg0.N) :
    (dats m 0 c).leavesExact 4 t = owns (c : Thread nD τ) (ms0_4 t) fullShare (iblk m c 4 t) := by
  unfold Dat.leavesExact
  rw [show cfg0.idle 4 (cfg0.grid.coords t) = false from rfl, after0_4]
theorem leaves0_5 (c : Dev nD) (t : Fin cfg0.N) :
    (dats m 0 c).leavesExact 5 t = owns (c : Thread nD τ) (ms0_5 t) fullShare (iblk m c 5 t) := by
  unfold Dat.leavesExact
  rw [show cfg0.idle 5 (cfg0.grid.coords t) = false from rfl, after0_5]
theorem leaves0_6 (c : Dev nD) (t : Fin cfg0.N) :
    (dats m 0 c).leavesExact 6 t = owns (c : Thread nD τ) (ms0_6 t) fullShare (iblk m c 6 t) := by
  unfold Dat.leavesExact
  rw [show cfg0.idle 6 (cfg0.grid.coords t) = false from rfl, after0_6]
theorem leaves0_7 (c : Dev nD) (t : Fin cfg0.N) :
    (dats m 0 c).leavesExact 7 t = owns (c : Thread nD τ) (ms0_7 t) fullShare (iblk m c 7 t) := by
  unfold Dat.leavesExact
  rw [show cfg0.idle 7 (cfg0.grid.coords t) = false from rfl, after0_7]
theorem leaves0_8 (c : Dev nD) (t : Fin cfg0.N) :
    (dats m 0 c).leavesExact 8 t = owns (c : Thread nD τ) (ms0_8 t) fullShare (iblk m c 8 t) := by
  unfold Dat.leavesExact
  rw [show cfg0.idle 8 (cfg0.grid.coords t) = false from rfl, after0_8]
theorem leaves0_9 (c : Dev nD) (t : Fin cfg0.N) :
    (dats m 0 c).leavesExact 9 t = owns (c : Thread nD τ) (ms0_9 t) fullShare (iblk m c 9 t) := by
  unfold Dat.leavesExact
  rw [show cfg0.idle 9 (cfg0.grid.coords t) = false from rfl, after0_9]
theorem leaves0_11 (c : Dev nD) (t : Fin cfg0.N) :
    (dats m 0 c).leavesExact 11 t = owns (c : Thread nD τ) (ms0_11 t) fullShare (kOut m c t) := by
  unfold Dat.leavesExact
  rw [show cfg0.idle 11 (cfg0.grid.coords t) = false from rfl, after0_11]
theorem leaves0_12 (c : Dev nD) (t : Fin cfg0.N) :
    (dats m 0 c).leavesExact 12 t = owns (c : Thread nD τ) (ms0_12 t) fullShare (vOut m c t) := by
  unfold Dat.leavesExact
  rw [show cfg0.idle 12 (cfg0.grid.coords t) = false from rfl, after0_12]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (dats m 0 c).leavesExact 11 t
    ∗ (dats m 0 c).leavesExact 12 t)

/-- The launch's invariant: the scratch at anything, and the register. -/
theorem PhiA_eq (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]; simp only [owns_whole]; try rfl

set_option maxHeartbeats 4000000 in
/-- Every point: the inputs' buffers hold their blocks, and the point leaves the keys and values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, leaves0_11, leaves0_12]
  rw [show (dats m 0 c).Φ t.succ = Pipeline.ΦA spec0 c from rfl, show (dats m 0 c).Φ t.castSucc = Pipeline.ΦA spec0 c from rfl, PhiA_eq]
  unfold Dat.owesAt Pipeline.owesWithin
  rw [show (dats m 0 c).owed t.castSucc = 0 from rfl, show (dats m 0 c).owed t.succ = 0 from rfl]
  unfold kOut vOut
  iintro ⟨⟨⟨HS0, HS1, HS2, HS3, HS4, HS5, HS6, HS7⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernelRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HW]; · iexact HW
  iintro ⟨H0, H1, H2, H3, H4, H5, H6, H7, H8, H9, H10, H11, H12, HS0, HS1, HS2, HS3, HS4, HS5, HS6, HS7, ⟨%W', HW'⟩⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation of the proof data. -/
theorem body_obligation (c : Dev nD) : BodyObligation (dats (F := F) m 0 c) (defs₀ (F := F)) Variants.none () Set.univ hush := fun t => by
  rw [bigSep_W0, bigSep_W0, defs₀_row]
  exact triple_restated (sound_body m c t) rfl .rfl fun _ => .rfl

/-! ## The launch -/

set_option backward.isDefEq.respectTransparency.types false in
/-- The run: the keys' and the values' arrays end as the proof data say, every semaphore at zero. -/
theorem run_quiescent : θ_run defs (onTc (τ := τ) (main (F := F))) (s₀ m ρ)
    (fun r => Pipeline.RDat.FramePost (cfgs 0) (fun c => (dats m 0 c).toRForget hush) (V m) r ∧ r.2.sem = fun _ => 0) :=
  Pipeline.θ_run_frame_forget (Q' := _) cfgs (dats m) (0 : Fin 1) launch0 defs₀ Variants.none hush m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they began, every semaphore at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1.arr_in c 1 rfl).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_quiescent m ρ)

end Cert.MixIdeal.Val

end
-- ==== Proof.MixSpec.lean ====
module

public import proofs.«01_k».proof.Proof.FfnSpec

@[expose] public section

noncomputable section

namespace Cert.MixSpec

open Idealize.ShloMosaic

/-! The prompt's new keys and values on ONE row of activations, over the extended reals: what both programs are shown to
compute at every row. -/

/-- The row's projection on column `p` of the mixer's input matrix. -/
def proj (h : Fin 1024 → EReal) (w : Fin 1024 → Fin 2304 → EReal) (p : Fin 2304) : EReal := ∑ k, h k * w k p

/-- The sum of the squares of one head's keys. -/
def sqSum (h : Fin 1024 → EReal) (w : Fin 1024 → Fin 2304 → EReal) (n : Fin 2) : EReal :=
  ∑ e : Fin 64, proj h w ⟨512 + (n.val * 64 + e.val), by omega⟩ * proj h w ⟨512 + (n.val * 64 + e.val), by omega⟩

/-- One key: the projection over the root mean square of its head, times the norm's weight. -/
def keyAt (h : Fin 1024 → EReal) (w : Fin 1024 → Fin 2304 → EReal) (g : Fin 64 → EReal) (n : Fin 2) (d : Fin 64) : EReal :=
  proj h w ⟨512 + (n.val * 64 + d.val), by omega⟩
    * Ideal.rsqrt (Ideal.div (sqSum h w n) (Ideal.ofBits FTy.f32 1115684864#32) + Ideal.ofBits FTy.f32 897988541#32) * g d

/-- One value: the projection alone. -/
def valAt (h : Fin 1024 → EReal) (w : Fin 1024 → Fin 2304 → EReal) (n : Fin 2) (d : Fin 64) : EReal :=
  proj h w ⟨640 + (n.val * 64 + d.val), by omega⟩

end Cert.MixSpec

end
-- ==== Proof.MixTile.lean ====
module

public import proofs.«01_k».proof.Proof.MixBlock
public import proofs.«01_k».proof.Proof.MixSpec
public import Idealize.ShloMosaic.Lib.Pointwise

@[expose] public section

set_option maxRecDepth 16384

noncomputable section

namespace Cert.MixIdeal.Val

open Cert.MixIdeal Cert.MixIdeal.Gen Cert.FfnSpec
open Cert.FfnIdeal.Val (ld)
open Idealize.ShloMosaic Idealize.ShloMosaic.TcCoe Idealize.ShloMosaic.Tactic

/-- One row of the first half's normalised activations. -/
theorem hidLo_at (a b : FVec Ideal S1x1024 .f32) (x : Vec Ideal S1x512x1024 .f32) (n : Vec Ideal S1x1024 .f32) (r : Fin 512) (q : Fin 1024) :
    k0_pay120 a b (k0_pay117 x) (k0_pay118 x) (k0_pay119 (F := Ideal)) n (ix2 r q)
      = x (ix3 0 r q) * Ideal.rsqrt (Ideal.div (∑ y, x (ix3 0 r y) * x (ix3 0 r y)) (Ideal.ofBits FTy.f32 1149239296#32) + Ideal.ofBits FTy.f32 897988541#32)
        * n (ix2 0 q) * b (ix2 0 q) + a (ix2 0 q) := by
  pointwise [k0_pay120, k0_pay117, k0_pay118, k0_pay119]

/-- Queries, keys and values of one row of the first half. -/
theorem projLo_at (a b : FVec Ideal S1x1024 .f32) (x : Vec Ideal S1x512x1024 .f32) (n : Vec Ideal S1x1024 .f32) (w : Vec Ideal S1024x768 .bf16) (r : Fin 512) (q : Fin 768) :
    k0_pay121 a b (k0_pay117 x) (k0_pay118 x) (k0_pay119 (F := Ideal)) n w (ix2 r q)
      = ∑ k, k0_pay120 a b (k0_pay117 x) (k0_pay118 x) (k0_pay119 (F := Ideal)) n (ix2 r k) * w (ix2 k q) := by
  pointwise [k0_pay121]

/-- One row of the second half's normalised activations. -/
theorem hidHi_at (a b : FVec Ideal S1x1024 .f32) (x : Vec Ideal S1x512x1024 .f32) (n : Vec Ideal S1x1024 .f32) (w : Vec Ideal S1024x768 .bf16) (r : Fin 512) (q : Fin 768) :
    k0_pay159 (k0_pay156 b x n) (k0_pay157 a) w (ix2 r q)
      = ∑ k, (x (ix3 0 r k) * Ideal.rsqrt (Ideal.div (∑ y, x (ix3 0 r y) * x (ix3 0 r y)) (Ideal.ofBits FTy.f32 1149239296#32) + Ideal.ofBits FTy.f32 897988541#32)
        * n (ix2 0 k) * b (ix2 0 k) + a (ix2 0 k)) * w (ix2 k q) := by
  pointwise [k0_pay159, k0_pay158, k0_pay157, k0_pay156]

/-- The kernel's key from a row of the projection: the mean is a product with the matrix of group means. -/
def keyRaw (p : Fin 768 → EReal) (gs : Fin 256 → Fin 256 → EReal) (qk : Fin 640 → EReal) (h : Fin 2) (d : Fin 64) : EReal :=
  p ⟨512 + (h.val * 64 + d.val), by omega⟩
    * Ideal.rsqrt ((∑ k : Fin 256, p ⟨512 + k.val, by omega⟩ * p ⟨512 + k.val, by omega⟩ * gs k ⟨h.val * 64 + d.val, by omega⟩)
        + Ideal.ofBits FTy.f32 897988541#32) * qk ⟨512 + (h.val * 64 + d.val), by omega⟩

/-- A key, piece k0. -/
theorem k0_at (a b : FVec Ideal S1x1024 .f32) (x : FVec Ideal S512x1024 .f32) (s t : FVec Ideal S512x1 .f32) (n : Vec Ideal S1x1024 .f32) (w : Vec Ideal S1024x768 .bf16) (gs : Vec Ideal S256x256 .bf16) (qk : Vec Ideal S1x640 .f32) (h : Fin 2) (d : Fin 64) (r : Fin 256) :
    k0_pay126 (k0_pay122 a b x s t n w gs gs gs) (k0_pay123 qk) (ix5 0 0 h d r)
      = keyRaw (fun c => k0_pay121 a b x s t n w (ix2 ⟨r.val, by omega⟩ c)) (fun k c => gs (ix2 k c)) (fun c => qk (ix2 0 c)) h d := by
  have e : 512 + (h.val * 64 + d.val) - 256 - 256 = h.val * 64 + d.val := by omega
  pointwise [k0_pay126, k0_pay124, k0_pay123, k0_pay122]
  rw [dif_neg (by omega), dif_neg (by omega)]
  simp only [e]
  rfl

/-- A key, piece k1. -/
theorem k1_at (a b : FVec Ideal S1x1024 .f32) (x : FVec Ideal S512x1024 .f32) (s t : FVec Ideal S512x1 .f32) (n : Vec Ideal S1x1024 .f32) (w : Vec Ideal S1024x768 .bf16) (gs : Vec Ideal S256x256 .bf16) (qk : Vec Ideal S1x640 .f32) (h : Fin 2) (d : Fin 64) (r : Fin 256) :
    k0_pay127 (k0_pay122 a b x s t n w gs gs gs) (k0_pay123 qk) (ix5 0 0 h d r)
      = keyRaw (fun c => k0_pay121 a b x s t n w (ix2 ⟨256 + r.val, by omega⟩ c)) (fun k c => gs (ix2 k c)) (fun c => qk (ix2 0 c)) h d := by
  have e : 512 + (h.val * 64 + d.val) - 256 - 256 = h.val * 64 + d.val := by omega
  pointwise [k0_pay127, k0_pay124, k0_pay123, k0_pay122]
  rw [dif_neg (by omega), dif_neg (by omega)]
  simp only [e]
  rfl

/-- A key, piece k2. -/
theorem k2_at (x y : FVec Ideal S512x1024 .f32) (w : Vec Ideal S1024x768 .bf16) (gs : Vec Ideal S256x256 .bf16) (qk : Vec Ideal S1x640 .f32) (h : Fin 2) (d : Fin 64) (r : Fin 256) :
    k0_pay162 x y w gs gs gs qk (ix5 0 0 h d r)
      = keyRaw (fun c => k0_pay159 x y w (ix2 ⟨r.val, by omega⟩ c)) (fun k c => gs (ix2 k c)) (fun c => qk (ix2 0 c)) h d := by
  have e : 512 + (h.val * 64 + d.val) - 256 - 256 = h.val * 64 + d.val := by omega
  pointwise [k0_pay162, k0_pay160]
  rw [dif_neg (by omega), dif_neg (by omega)]
  simp only [e]
  rfl

/-- A key, piece k3. -/
theorem k3_at (x y : FVec Ideal S512x1024 .f32) (w : Vec Ideal S1024x768 .bf16) (gs : Vec Ideal S256x256 .bf16) (qk : Vec Ideal S1x640 .f32) (h : Fin 2) (d : Fin 64) (r : Fin 256) :
    k0_pay164 (k0_pay163 x y w gs gs gs qk) (ix5 0 0 h d r)
      = keyRaw (fun c => k0_pay159 x y w (ix2 ⟨256 + r.val, by omega⟩ c)) (fun k c => gs (ix2 k c)) (fun c => qk (ix2 0 c)) h d := by
  have e : 512 + (h.val * 64 + d.val) - 256 - 256 = h.val * 64 + d.val := by omega
  pointwise [k0_pay164, k0_pay163, k0_pay160]
  rw [dif_neg (by omega), dif_neg (by omega)]
  simp only [e]
  rfl

/-- A value, piece v0. -/
theorem v0_at (a b : FVec Ideal S1x1024 .f32) (x : FVec Ideal S512x1024 .f32) (s t : FVec Ideal S512x1 .f32) (n : Vec Ideal S1x1024 .f32) (w : Vec Ideal S1024x768 .bf16) (h : Fin 2) (d : Fin 64) (r : Fin 256) :
    k0_pay147 (k0_pay125 (k0_pay121 a b x s t n w)) (ix5 0 0 h d r) = k0_pay121 a b x s t n w (ix2 ⟨r.val, by omega⟩ ⟨640 + (h.val * 64 + d.val), by omega⟩) := by
  pointwise [k0_pay147, k0_pay143, k0_pay125]

/-- A value, piece v1. -/
theorem v1_at (a b : FVec Ideal S1x1024 .f32) (x : FVec Ideal S512x1024 .f32) (s t : FVec Ideal S512x1 .f32) (n : Vec Ideal S1x1024 .f32) (w : Vec Ideal S1024x768 .bf16) (h : Fin 2) (d : Fin 64) (r : Fin 256) :
    k0_pay152 (k0_pay148 (k0_pay125 (k0_pay121 a b x s t n w))) (ix5 0 0 h d r) = k0_pay121 a b x s t n w (ix2 ⟨256 + r.val, by omega⟩ ⟨640 + (h.val * 64 + d.val), by omega⟩) := by
  pointwise [k0_pay152, k0_pay148, k0_pay125]

/-- A value, piece v2. -/
theorem v2_at (x y : FVec Ideal S512x1024 .f32) (w : Vec Ideal S1024x768 .bf16) (h : Fin 2) (d : Fin 64) (r : Fin 256) :
    k0_pay186 (k0_pay181 (k0_pay161 x y w)) (ix5 0 0 h d r) = k0_pay159 x y w (ix2 ⟨r.val, by omega⟩ ⟨640 + (h.val * 64 + d.val), by omega⟩) := by
  pointwise [k0_pay186, k0_pay181, k0_pay161]

/-- A value, piece v3. -/
theorem v3_at (x y : FVec Ideal S512x1024 .f32) (w : Vec Ideal S1024x768 .bf16) (h : Fin 2) (d : Fin 64) (r : Fin 256) :
    k0_pay191 (k0_pay161 x y w) (ix5 0 0 h d r) = k0_pay159 x y w (ix2 ⟨256 + r.val, by omega⟩ ⟨640 + (h.val * 64 + d.val), by omega⟩) := by
  pointwise [k0_pay191, k0_pay187, k0_pay161]

end Cert.MixIdeal.Val

end
-- ==== Proof.MixTileOut.lean ====
module

public import proofs.«01_k».proof.Proof.MixTile

@[expose] public section

set_option maxRecDepth 16384

noncomputable section

namespace Cert.MixIdeal.Val

open Cert.MixIdeal Cert.MixIdeal.Gen Cert.FfnSpec
open Cert.FfnIdeal.Val (ld)
open Idealize.ShloMosaic Idealize.ShloMosaic.TcCoe Idealize.ShloMosaic.Tactic

/-- One row of a tile, projected on the columns of queries, keys and values. -/
def rowProj (x : Vec Ideal S1x1024x1024 .f32) (m : Vec Ideal S8x3072 .f32) (n : Vec Ideal S1x1024 .f32) (w : Vec Ideal S1024x2304 .bf16)
    (R : Fin 1024) (q : Fin 768) : EReal :=
  ∑ k, hidRow (fun k => x (ix3 0 R k)) (fun k => n (ix2 0 k)) (fun k => m (ix2 0 ⟨1024 + k.val, by omega⟩))
    (fun k => m (ix2 0 ⟨k.val, by omega⟩)) k * w (ix2 k ⟨q.val, by omega⟩)

theorem shift_at (m : Vec Ideal S8x3072 .f32) (k : Fin 1024) : k0_pay100 (mrow m) (ix2 0 k) = m (ix2 0 ⟨k.val, by omega⟩) := by
  pointwise [k0_pay100, mrow, ld]
theorem scale_at (m : Vec Ideal S8x3072 .f32) (k : Fin 1024) : k0_pay101 (mrow m) (ix2 0 k) = 1 + m (ix2 0 ⟨1024 + k.val, by omega⟩) := by
  pointwise [k0_pay101, mrow, ld]
theorem xlo_at (x : Vec Ideal S1x1024x1024 .f32) (r : Fin 512) (k : Fin 1024) : xlo x (ix3 0 r k) = x (ix3 0 ⟨r.val, by omega⟩ k) := by
  pointwise [xlo, ld]
theorem xhi_at (x : Vec Ideal S1x1024x1024 .f32) (r : Fin 512) (k : Fin 1024) : xhi x (ix3 0 r k) = x (ix3 0 ⟨512 + r.val, by omega⟩ k) := by
  pointwise [xhi, ld]
theorem wqkv_at (w : Vec Ideal S1024x2304 .bf16) (k : Fin 1024) (q : Fin 768) : wqkv w (ix2 k q) = w (ix2 k ⟨q.val, by omega⟩) := by
  pointwise [wqkv, ld]

/-- The first half's rows. -/
theorem rowLo (x : Vec Ideal S1x1024x1024 .f32) (m : Vec Ideal S8x3072 .f32) (n : Vec Ideal S1x1024 .f32) (w : Vec Ideal S1024x2304 .bf16)
    (r : Fin 512) (q : Fin 768) :
    k0_pay121 (k0_pay100 (mrow m)) (k0_pay101 (mrow m)) (k0_pay117 (xlo x)) (k0_pay118 (xlo x)) (k0_pay119 (F := Ideal)) n (wqkv w) (ix2 r q)
      = rowProj x m n w ⟨r.val, by omega⟩ q := by
  rw [projLo_at]
  simp only [hidLo_at, shift_at, scale_at, xlo_at, wqkv_at]
  rfl

/-- The second half's rows. -/
theorem rowHi (x : Vec Ideal S1x1024x1024 .f32) (m : Vec Ideal S8x3072 .f32) (n : Vec Ideal S1x1024 .f32) (w : Vec Ideal S1024x2304 .bf16)
    (r : Fin 512) (q : Fin 768) :
    k0_pay159 (k0_pay156 (k0_pay101 (mrow m)) (xhi x) n) (k0_pay157 (k0_pay100 (mrow m))) (wqkv w) (ix2 r q)
      = rowProj x m n w ⟨512 + r.val, by omega⟩ q := by
  rw [hidHi_at]
  simp only [shift_at, scale_at, xhi_at, wqkv_at]
  rfl

/-- The keys' block at an index. -/
theorem koBlk_at (x : Vec Ideal S1x1024x1024 .f32) (m : Vec Ideal S8x3072 .f32) (n : Vec Ideal S1x1024 .f32) (w : Vec Ideal S1024x2304 .bf16)
    (gs : Vec Ideal S256x256 .bf16) (qk : Vec Ideal S1x640 .f32) (b : Fin 4) (h : Fin 2) (d : Fin 64) (r : Fin 256) :
    koBlk x m n w gs qk (ix5 b 0 h d r)
      = keyRaw (rowProj x m n w ⟨256 * b.val + r.val, by omega⟩) (fun k c => gs (ix2 k c)) (fun c => qk (ix2 0 c)) h d := by
  have hb : ∀ p0 p1 p2 p3 : Vec Ideal S1x1x2x64x256 .f32, fill4 p0 p1 p2 p3 (ix5 b 0 h d r)
      = if b.val = 0 then p0 (ix5 0 0 h d r) else if b.val = 1 then p1 (ix5 0 0 h d r) else if b.val = 2 then p2 (ix5 0 0 h d r)
        else p3 (ix5 0 0 h d r) := fun _ _ _ _ => rfl
  unfold koBlk normLo actHi shiftHi
  rw [hb]
  rcases (by omega : b.val = 0 ∨ b.val = 1 ∨ b.val = 2 ∨ b.val = 3) with e | e | e | e
  · rw [if_pos e, k0_at]
    simp only [rowLo]
    exact congrArg (fun R => keyRaw (rowProj x m n w R) (fun k c => gs (ix2 k c)) (fun c => qk (ix2 0 c)) h d) (Fin.ext (by show r.val = 256 * b.val + r.val; omega))
  · rw [if_neg (by omega), if_pos e, k1_at]
    simp only [rowLo]
    exact congrArg (fun R => keyRaw (rowProj x m n w R) (fun k c => gs (ix2 k c)) (fun c => qk (ix2 0 c)) h d) (Fin.ext (by show 256 + r.val = 256 * b.val + r.val; omega))
  · rw [if_neg (by omega), if_neg (by omega), if_pos e, k2_at]
    simp only [rowHi]
    exact congrArg (fun R => keyRaw (rowProj x m n w R) (fun k c => gs (ix2 k c)) (fun c => qk (ix2 0 c)) h d) (Fin.ext (by show 512 + r.val = 256 * b.val + r.val; omega))
  · rw [if_neg (by omega), if_neg (by omega), if_neg (by omega), k3_at]
    simp only [rowHi]
    exact congrArg (fun R => keyRaw (rowProj x m n w R) (fun k c => gs (ix2 k c)) (fun c => qk (ix2 0 c)) h d) (Fin.ext (by show 512 + (256 + r.val) = 256 * b.val + r.val; omega))

/-- The values' block at an index. -/
theorem voBlk_at (x : Vec Ideal S1x1024x1024 .f32) (m : Vec Ideal S8x3072 .f32) (n : Vec Ideal S1x1024 .f32) (w : Vec Ideal S1024x2304 .bf16)
    (b : Fin 4) (h : Fin 2) (d : Fin 64) (r : Fin 256) :
    voBlk x m n w (ix5 b 0 h d r)
      = rowProj x m n w ⟨256 * b.val + r.val, by omega⟩ ⟨640 + (h.val * 64 + d.val), by omega⟩ := by
  have hb : ∀ p0 p1 p2 p3 : Vec Ideal S1x1x2x64x256 .f32, fill4 p0 p1 p2 p3 (ix5 b 0 h d r)
      = if b.val = 0 then p0 (ix5 0 0 h d r) else if b.val = 1 then p1 (ix5 0 0 h d r) else if b.val = 2 then p2 (ix5 0 0 h d r)
        else p3 (ix5 0 0 h d r) := fun _ _ _ _ => rfl
  unfold voBlk projLo valHi actHi shiftHi
  rw [hb]
  rcases (by omega : b.val = 0 ∨ b.val = 1 ∨ b.val = 2 ∨ b.val = 3) with e | e | e | e
  · rw [if_pos e, v0_at, rowLo]
    congr 1; exact Fin.ext (by show r.val = 256 * b.val + r.val; omega)
  · rw [if_neg (by omega), if_pos e, v1_at, rowLo]
    congr 1; exact Fin.ext (by show 256 + r.val = 256 * b.val + r.val; omega)
  · rw [if_neg (by omega), if_neg (by omega), if_pos e, v2_at, rowHi]
    congr 1; exact Fin.ext (by show 512 + r.val = 256 * b.val + r.val; omega)
  · rw [if_neg (by omega), if_neg (by omega), if_neg (by omega), v3_at, rowHi]
    congr 1; exact Fin.ext (by show 512 + (256 + r.val) = 256 * b.val + r.val; omega)

end Cert.MixIdeal.Val

end
-- ==== Proof.MixLitLeaf.lean ====
module

public import proofs.«01_k».proof.MixIdeal
public import Mathlib.Tactic.IntervalCases

@[expose] public section

namespace Cert.MixIdeal.Val

open Cert.MixIdeal

/-- A half row whose first 64 entries are 1/64. -/
theorem leaf_lo (i : Nat) : lit0t0_0 i = if i % 128 / 64 = 0 then 0x3C80#16 else 0#16 := by
  have h : ∀ j < 128, lit0t0_0 j = if j / 64 = 0 then 0x3C80#16 else 0#16 := by decide +kernel
  have e : lit0t0_0 i = lit0t0_0 (i % 128) := by
    unfold lit0t0_0
    rw [Nat.mod_mod]
  rw [e]
  exact h _ (Nat.mod_lt _ (by decide))

/-- A half row whose last 64 entries are 1/64. -/
theorem leaf_hi (i : Nat) : lit0t0_128 i = if i % 128 / 64 = 1 then 0x3C80#16 else 0#16 := by
  have h : ∀ j < 128, lit0t0_128 j = if j / 64 = 1 then 0x3C80#16 else 0#16 := by decide +kernel
  have e : lit0t0_128 i = lit0t0_128 (i % 128) := by
    unfold lit0t0_128
    rw [Nat.mod_mod]
  rw [e]
  exact h _ (Nat.mod_lt _ (by decide))

/-- A half row of zeros. -/
theorem leaf_zero (i : Nat) : lit0t0_1 i = 0#16 := by
  have h : ∀ j < 128, lit0t0_1 j = 0#16 := by decide +kernel
  have e : lit0t0_1 i = lit0t0_1 (i % 128) := by
    unfold lit0t0_1
    rw [Nat.mod_mod]
  rw [e]
  exact h _ (Nat.mod_lt _ (by decide))

set_option maxHeartbeats 4000000 in
/-- The rows of the first group, by halves: 1/64 at the start of the first half. -/
theorem halves0 (i d : Nat) (hd : d < 128) (h : i / 128 % 128 = d) :
    lit0t1_0 i = if d % 2 = 0 then lit0t0_0 i else lit0t0_1 i := by
  unfold lit0t1_0
  rw [h]
  clear h
  interval_cases d <;> rfl

set_option maxHeartbeats 4000000 in
/-- The rows of the second group, by halves: 1/64 at the end of the first half. -/
theorem halves1 (i d : Nat) (hd : d < 128) (h : i / 128 % 128 = d) :
    lit0t1_1 i = if d % 2 = 0 then lit0t0_128 i else lit0t0_1 i := by
  unfold lit0t1_1
  rw [h]
  clear h
  interval_cases d <;> rfl

set_option maxHeartbeats 4000000 in
/-- The rows of the third group, by halves: 1/64 at the start of the second half. -/
theorem halves2 (i d : Nat) (hd : d < 128) (h : i / 128 % 128 = d) :
    lit0t1_2 i = if d % 2 = 0 then lit0t0_1 i else lit0t0_0 i := by
  unfold lit0t1_2
  rw [h]
  clear h
  interval_cases d <;> rfl

set_option maxHeartbeats 4000000 in
/-- The rows of the last group, by halves: 1/64 at the end of the second half. -/
theorem halves3 (i d : Nat) (hd : d < 128) (h : i / 128 % 128 = d) :
    lit0t1_3 i = if d % 2 = 0 then lit0t0_1 i else lit0t0_128 i := by
  unfold lit0t1_3
  rw [h]
  clear h
  interval_cases d <;> rfl

/-- The first group's rows: 1/64 in the columns of the same group, 0 elsewhere. -/
theorem rows0 (r q : Nat) (hr : r < 64) (hq : q < 256) :
    lit0t ((0 * 64 + r) * 256 + q) = if 0 = q / 64 then 0x3C80#16 else 0#16 := by
  have e : lit0t ((0 * 64 + r) * 256 + q) = lit0t1_0 ((0 * 64 + r) * 256 + q) := by
    unfold lit0t
    rw [show ((0 * 64 + r) * 256 + q) / 16384 = 0 by omega]
    rfl
  rw [e, halves0 _ (2 * r + q / 128) (by omega) (by omega), leaf_zero, leaf_lo,
    show ((0 * 64 + r) * 256 + q) % 128 = q % 128 by omega]
  split_ifs <;> first | rfl | (exfalso; omega)

/-- The second group's rows: 1/64 in the columns of the same group, 0 elsewhere. -/
theorem rows1 (r q : Nat) (hr : r < 64) (hq : q < 256) :
    lit0t ((1 * 64 + r) * 256 + q) = if 1 = q / 64 then 0x3C80#16 else 0#16 := by
  have e : lit0t ((1 * 64 + r) * 256 + q) = lit0t1_1 ((1 * 64 + r) * 256 + q) := by
    unfold lit0t
    rw [show ((1 * 64 + r) * 256 + q) / 16384 = 1 by omega]
    rfl
  rw [e, halves1 _ (2 * r + q / 128) (by omega) (by omega), leaf_zero, leaf_hi,
    show ((1 * 64 + r) * 256 + q) % 128 = q % 128 by omega]
  split_ifs <;> first | rfl | (exfalso; omega)

/-- The third group's rows: 1/64 in the columns of the same group, 0 elsewhere. -/
theorem rows2 (r q : Nat) (hr : r < 64) (hq : q < 256) :
    lit0t ((2 * 64 + r) * 256 + q) = if 2 = q / 64 then 0x3C80#16 else 0#16 := by
  have e : lit0t ((2 * 64 + r) * 256 + q) = lit0t1_2 ((2 * 64 + r) * 256 + q) := by
    unfold lit0t
    rw [show ((2 * 64 + r) * 256 + q) / 16384 = 2 by omega]
    rfl
  rw [e, halves2 _ (2 * r + q / 128) (by omega) (by omega), leaf_zero, leaf_lo,
    show ((2 * 64 + r) * 256 + q) % 128 = q % 128 by omega]
  split_ifs <;> first | rfl | (exfalso; omega)

/-- The last group's rows: 1/64 in the columns of the same group, 0 elsewhere. -/
theorem rows3 (r q : Nat) (hr : r < 64) (hq : q < 256) :
    lit0t ((3 * 64 + r) * 256 + q) = if 3 = q / 64 then 0x3C80#16 else 0#16 := by
  have e : lit0t ((3 * 64 + r) * 256 + q) = lit0t1_3 ((3 * 64 + r) * 256 + q) := by
    unfold lit0t
    rw [show ((3 * 64 + r) * 256 + q) / 16384 = 3 by omega]
    rfl
  rw [e, halves3 _ (2 * r + q / 128) (by omega) (by omega), leaf_zero, leaf_hi,
    show ((3 * 64 + r) * 256 + q) % 128 = q % 128 by omega]
  split_ifs <;> first | rfl | (exfalso; omega)

end Cert.MixIdeal.Val

end
-- ==== Proof.MixVal.lean ====
module

public import proofs.«01_k».proof.Proof.MixDat
public import proofs.«01_k».proof.Proof.MixTileOut
public import proofs.«01_k».proof.Proof.MixLitLeaf
public import Idealize.ShloMosaic.Lib.Pipeline.ValueKit.Point

@[expose] public section

set_option maxRecDepth 16384

noncomputable section

namespace Cert.MixIdeal.Val

open Cert.MixIdeal Cert.MixIdeal.Gen Cert.FfnSpec
open Idealize.ShloMosaic Idealize.ShloMosaic.TcCoe Idealize.ShloMosaic.Tactic

variable (m : (ℓ : Loc nD τ sig) → Buf (Elt Ideal) ℓ)

/-- An entry of the written-out matrix of group means. -/
theorem lit_at (k q : Fin 256) : lit0t (k.val * 256 + q.val) = if k.val / 64 = q.val / 64 then 0x3C80#16 else 0#16 := by
  have hk : k.val / 64 < 4 := by omega
  have e : k.val = k.val / 64 * 64 + k.val % 64 := by omega
  have hr : k.val % 64 < 64 := Nat.mod_lt _ (by norm_num)
  generalize k.val / 64 = g at e hk ⊢
  generalize k.val % 64 = r at e hr
  rw [e]
  match g, hk with
  | 0, _ => exact rows0 r q.val hr q.isLt
  | 1, _ => exact rows1 r q.val hr q.isLt
  | 2, _ => exact rows2 r q.val hr q.isLt
  | 3, _ => exact rows3 r q.val hr q.isLt

/-- The matrix of group means as the launch finds it. -/
theorem gs_eq (c : Dev nD) : V m c main_cst = fun i => Ideal.ofBits FTy.bf16 (lit0 (S256x256.rowMajor i)) := by
  simp only [V, hostOps0, List.flatten_cons, List.flatten_nil, List.append_nil,
    List.cons_append, List.nil_append]
  after_results_simp
  rfl

/-- An entry of the matrix of group means. -/
theorem gs_at (c : Dev nD) (k q : Fin 256) : V m c main_cst (ix2 k q)
    = (if k.val / 64 = q.val / 64 then Ideal.ofBits FTy.bf16 0x3C80#16 else 0 : EReal) := by
  rw [gs_eq]
  have hp : (S256x256.rowMajor (ix2 k q)).val = k.val * 256 + q.val := Shape.rowMajor_val_two (d := ![256, 256]) _
  have h : lit0 (S256x256.rowMajor (ix2 k q)) = lit0t (k.val * 256 + q.val) := congrArg lit0t hp
  show Ideal.ofBits FTy.bf16 (lit0 (S256x256.rowMajor (ix2 k q))) = _
  rw [h, lit_at]
  split
  · rfl
  · simp [Ideal.ofBits, Ideal.ieee]

/-- The gains as the host lays them: the queries' eight times, then the keys' twice. -/
def gains (gq gk : Vec Ideal S1x64 .f32) : Vec Ideal S1x640 .f32 :=
  broadcastInDim S1x640 ![1] bcast_S640_S1x640_1 (concatenate S640 0
    [⟨S512, shapeCast S512 (broadcastInDim S8x64 ![0, 1] bcast_S1x64_S8x64_0_1 (shapeCast S1x64 (shapeCast S64 gq shapeCasts_S1x64_S64) shapeCasts_S64_S1x64)) shapeCasts_S8x64_S512⟩,
     ⟨S128, shapeCast S128 (broadcastInDim S2x64 ![0, 1] bcast_S1x64_S2x64_0_1 (shapeCast S1x64 (shapeCast S64 gk shapeCasts_S1x64_S64) shapeCasts_S64_S1x64)) shapeCasts_S2x64_S128⟩]
    concatenates_S512_S128_S640_d0)

set_option maxHeartbeats 1000000 in
/-- The gains as the launch finds them. -/
theorem qk_eq (c : Dev nD) : V m c main_v13 = gains (m ((c.tc : Thread nD τ).loc main_arg4)) (m ((c.tc : Thread nD τ).loc main_arg5)) := by
  simp only [V, hostOps0, List.flatten_cons, List.flatten_nil, List.append_nil,
    List.cons_append, List.nil_append]
  after_results_simp
  rfl

/-- The keys' part of the gains. -/
theorem gains_at (gq gk : Vec Ideal S1x64 .f32) (h : Fin 2) (d : Fin 64) :
    gains gq gk (ix2 0 ⟨512 + (h.val * 64 + d.val), by omega⟩) = gk (ix2 0 d) := by
  pointwise [gains]

/-- A key's gain as the launch finds it. -/
theorem qk_at (c : Dev nD) (h : Fin 2) (d : Fin 64) :
    V m c main_v13 (ix2 0 ⟨512 + (h.val * 64 + d.val), by omega⟩) = m ((c.tc : Thread nD τ).loc main_arg5) (ix2 0 d) := by
  rw [qk_eq, gains_at]

/-- The norm's weights as the launch finds them. -/
theorem nm_at (c : Dev nD) (k : Fin 1024) :
    V m c main_v1 (ix2 0 k) = m ((c.tc : Thread nD τ).loc main_arg2) (ix2 0 k) := by
  simp only [V, hostOps0, List.flatten_cons, List.flatten_nil, List.append_nil,
    List.cons_append, List.nil_append]
  after_results_simp
  pointwise []

/-- The mixer's input matrix as the launch finds it. -/
theorem w_at (c : Dev nD) (k : Fin 1024) (q : Fin 2304) :
    V m c main_v3 (ix2 k q) = m ((c.tc : Thread nD τ).loc main_arg3) (ix3 0 k q) := by
  entry_read
  exact shapeCast_apply _ _ _ _ (by
    refine (Shape.rowMajor_val_three (d := ![1, 1024, 2304]) _).trans (Eq.trans ?_ (Shape.rowMajor_val_two (d := ![1024, 2304]) _).symm)
    show (0 * 1024 + k.val) * 2304 + q.val = k.val * 2304 + q.val
    omega)

/-- The prompt's rows as the launch finds them, four prompts to a tile. -/
theorem x_at (c : Dev nD) (t : Fin 4) (r : Fin 1024) (k : Fin 1024) :
    V m c main_v21 (ix3 t r k)
      = m ((c.tc : Thread nD τ).loc main_arg0) (ix3 ⟨4 * t.val + r.val / 256, by omega⟩ ⟨r.val % 256, by omega⟩ k) := by
  entry_read
  exact shapeCast_apply _ _ _ _ (by
    refine (Shape.rowMajor_val_three (d := ![16, 256, 1024]) _).trans (Eq.trans ?_ (Shape.rowMajor_val_three (d := ![4, 1024, 1024]) _).symm)
    show ((4 * t.val + r.val / 256) * 256 + r.val % 256) * 1024 + k.val = (t.val * 1024 + r.val) * 1024 + k.val
    omega)

end Cert.MixIdeal.Val

end
-- ==== Proof.MixMean.lean ====
module

public import proofs.«01_k».proof.Proof.MixTile
public import proofs.«01_k».proof.Proof.MixSpec

@[expose] public section

noncomputable section

namespace Cert.MixSpec

open Idealize.ShloMosaic

/-- The weight of a group's mean, as a real number. -/
theorem inv64 : Ideal.ofBits FTy.bf16 0x3C80#16 = (((1 : ℝ) / 64 : ℝ) : EReal) := by
  simp [Ideal.ofBits, Ideal.ieee, -EReal.coe_mul]; norm_num

/-- The size of a group, as a real number. -/
theorem lit64 : Ideal.ofBits FTy.f32 1115684864#32 = ((64 : ℝ) : EReal) := by
  simp [Ideal.ofBits, Ideal.ieee, -EReal.coe_mul]; norm_num

/-- A square is not negative. -/
theorem sq_nonneg' (x : EReal) : 0 ≤ x * x := by
  rcases le_total 0 x with h | h
  · exact mul_nonneg h h
  · have h' : 0 ≤ -x := EReal.neg_nonneg.mpr h
    have e : x * x = -x * -x := by rw [neg_mul_neg]
    rw [e]; exact mul_nonneg h' h'

/-- A factor comes out of a sum of terms that are not negative. -/
theorem sum_mul_const {ι : Type} (s : Finset ι) (f : ι → EReal) (hf : ∀ i, 0 ≤ f i) (a : EReal) :
    ∑ i ∈ s, f i * a = (∑ i ∈ s, f i) * a := by
  classical
  induction s using Finset.induction_on with
  | empty => simp
  | insert i s hi ih =>
    rw [Finset.sum_insert hi, Finset.sum_insert hi, ih,
      EReal.right_distrib_of_nonneg (hf i) (Finset.sum_nonneg fun j _ => hf j)]

/-- The product with the matrix of group means is the sum over the group, divided by its size. -/
theorem mean_eq (f : Fin 256 → EReal) (h : Fin 2) (d : Fin 64) :
    ∑ k : Fin 256, f k * f k * (if k.val / 64 = (h.val * 64 + d.val) / 64 then Ideal.ofBits FTy.bf16 0x3C80#16 else 0)
      = Ideal.div (∑ e : Fin 64, f ⟨h.val * 64 + e.val, by omega⟩ * f ⟨h.val * 64 + e.val, by omega⟩)
          (Ideal.ofBits FTy.f32 1115684864#32) := by
  rw [lit64, inv64, Ideal.div_coe (by norm_num), ← sum_mul_const _ _ (fun _ => sq_nonneg' _)]
  have hg : (h.val * 64 + d.val) / 64 = h.val := by omega
  simp only [hg, mul_ite, mul_zero]
  rw [← Finset.sum_filter]
  symm
  refine Finset.sum_bij (fun (e : Fin 64) _ => (⟨h.val * 64 + e.val, by omega⟩ : Fin 256)) ?_ ?_ ?_ ?_
  · intro e _
    simp only [Finset.mem_filter, Finset.mem_univ, true_and]
    omega
  · intro a _ b _ hab
    have := congrArg Fin.val hab
    exact Fin.ext (by simp only at this; omega)
  · intro k hk
    simp only [Finset.mem_filter, Finset.mem_univ, true_and] at hk
    exact ⟨⟨k.val - h.val * 64, by omega⟩, Finset.mem_univ _, Fin.ext (by show h.val * 64 + (k.val - h.val * 64) = k.val; omega)⟩
  · intro e _; rfl

end Cert.MixSpec

end
-- ==== Proof.MixKeys.lean ====
module

public import proofs.«01_k».proof.Proof.MixVal
public import proofs.«01_k».proof.Proof.MixMean
public import Idealize.ShloMosaic.Lib.Pipeline.ValueKit.Point

@[expose] public section

set_option maxRecDepth 16384

noncomputable section

namespace Cert.MixIdeal.Val

open Cert.MixIdeal Cert.MixIdeal.Gen Cert.FfnSpec Cert.MixSpec
open Idealize.ShloMosaic Idealize.ShloMosaic.TcCoe Idealize.ShloMosaic.Tactic Idealize.SL.Sem

variable (m : (ℓ : Loc nD τ sig) → Buf (Elt Ideal) ℓ) (ρ : Dev nD → PrngReg)

/-- Where each window's block lies at each point. -/
theorem idx : ∀ t : Fin cfg0.N,
    win0_0.index t = ![t.val, 0, 0] ∧ win0_1.index t = ![1, 0] ∧ win0_2.index t = ![0, 0] ∧ win0_3.index t = ![0, 0]
    ∧ win0_4.index t = ![0, 0] ∧ win0_5.index t = ![0, 0]
    ∧ win0_11.index t = ![t.val, 0, 0, 0, 0] ∧ win0_12.index t = ![t.val, 0, 0, 0, 0] :=
  (by decide +kernel : ∀ t : Fin grid0.N, _)

/-- A tile's rows: four prompts, one after the other. -/
theorem b0_at (c : Dev nD) (t : Fin cfg0.N) (b : Fin 4) (s : Fin 256) (k : Fin 1024) :
    iblk m c 0 t (ix3 0 ⟨256 * b.val + s.val, by omega⟩ k) = m ((c.tc : Thread nD τ).loc main_arg0)
      (ix3 ⟨4 * t.val + b.val, by have := t.isLt; have : cfg0.N = 4 := rfl; omega⟩ s k) := by
  have ht : t.val < 4 := t.isLt
  refine Eq.trans (b := V m c main_v21 (ix3 ⟨t.val, ht⟩ ⟨256 * b.val + s.val, by omega⟩ k)) ?_ ?_
  · blk_ext [iblk, idx t]
  · rw [x_at]
    congr 2
    · exact Fin.ext (by show 4 * t.val + (256 * b.val + s.val) / 256 = 4 * t.val + b.val; omega)
    · exact Fin.ext (by show (256 * b.val + s.val) % 256 = s.val; omega)

/-- The prompt's modulation row. -/
theorem b1_at (c : Dev nD) (t : Fin cfg0.N) (k : Fin 3072) :
    iblk m c 1 t (ix2 0 k) = m ((c.tc : Thread nD τ).loc main_arg1) (ix2 8 ⟨k.val, by omega⟩) := by
  refine Eq.trans (b := V m c main_arg1 (ix2 8 ⟨k.val, by omega⟩)) ?_ (by rw [V_main_arg1])
  blk_ext [iblk, idx t]

/-- The staged norm's weights. -/
theorem b2_at (c : Dev nD) (t : Fin cfg0.N) (k : Fin 1024) :
    iblk m c 2 t (ix2 0 k) = m ((c.tc : Thread nD τ).loc main_arg2) (ix2 0 k) := by
  refine Eq.trans ?_ (nm_at m c k)
  blk_ext [iblk, idx t]

/-- The staged input matrix. -/
theorem b3_at (c : Dev nD) (t : Fin cfg0.N) (k : Fin 1024) (q : Fin 2304) :
    iblk m c 3 t (ix2 k q) = m ((c.tc : Thread nD τ).loc main_arg3) (ix3 0 k q) := by
  refine Eq.trans ?_ (w_at m c k q)
  blk_ext [iblk, idx t]

/-- The staged matrix of group means. -/
theorem b4_at (c : Dev nD) (t : Fin cfg0.N) (k q : Fin 256) :
    iblk m c 4 t (ix2 k q) = (if k.val / 64 = q.val / 64 then Ideal.ofBits FTy.bf16 0x3C80#16 else 0 : EReal) := by
  refine Eq.trans ?_ (gs_at m c k q)
  blk_ext [iblk, idx t]

/-- A staged key's gain. -/
theorem b5_at (c : Dev nD) (t : Fin cfg0.N) (h : Fin 2) (d : Fin 64) :
    iblk m c 5 t (ix2 0 ⟨512 + (h.val * 64 + d.val), by omega⟩) = m ((c.tc : Thread nD τ).loc main_arg5) (ix2 0 d) := by
  refine Eq.trans ?_ (qk_at m c h d)
  blk_ext [iblk, idx t]

/-- One row of the prompt's normalised, modulated activations. -/
def hid (c : Dev nD) (a : Fin 16) (s : Fin 256) : Fin 1024 → EReal :=
  hidRow (fun k => m ((c.tc : Thread nD τ).loc main_arg0) (ix3 a s k))
    (fun k => m ((c.tc : Thread nD τ).loc main_arg2) (ix2 0 k))
    (fun k => m ((c.tc : Thread nD τ).loc main_arg1) (ix2 8 ⟨1024 + k.val, by omega⟩))
    (fun k => m ((c.tc : Thread nD τ).loc main_arg1) (ix2 8 ⟨k.val, by omega⟩))

/-- The keys as one function of the arguments. -/
def GK (c : Dev nD) : Vec Ideal S16x1x2x64x256 .f32 := fun j =>
  keyAt (hid m c (j 0) (j 4)) (fun k p => m ((c.tc : Thread nD τ).loc main_arg3) (ix3 0 k p))
    (fun d => m ((c.tc : Thread nD τ).loc main_arg5) (ix2 0 d)) (j 2) (j 3)

/-- The values as one function of the arguments. -/
def GV (c : Dev nD) : Vec Ideal S16x1x2x64x256 .f32 := fun j =>
  valAt (hid m c (j 0) (j 4)) (fun k p => m ((c.tc : Thread nD τ).loc main_arg3) (ix3 0 k p)) (j 2) (j 3)

/-- A row of a tile, projected. -/
theorem row_at (c : Dev nD) (t : Fin cfg0.N) (b : Fin 4) (s : Fin 256) (q : Fin 768) :
    rowProj (iblk m c 0 t) (iblk m c 1 t) (iblk m c 2 t) (iblk m c 3 t) ⟨256 * b.val + s.val, by omega⟩ q
      = MixSpec.proj (hid m c ⟨4 * t.val + b.val, by have := t.isLt; have : cfg0.N = 4 := rfl; omega⟩ s)
          (fun k p => m ((c.tc : Thread nD τ).loc main_arg3) (ix3 0 k p)) ⟨q.val, by omega⟩ := by
  unfold rowProj MixSpec.proj hid
  simp only [b0_at, b1_at, b2_at, b3_at]

/-- The keys of a point's four prompts. -/
theorem kOut_at (c : Dev nD) (t : Fin cfg0.N) (b : Fin 4) (h : Fin 2) (d : Fin 64) (s : Fin 256) :
    kOut m c t (ix5 b 0 h d s) = GK m c (ix5 ⟨4 * t.val + b.val, by have := t.isLt; have : cfg0.N = 4 := rfl; omega⟩ 0 h d s) := by
  unfold kOut
  rw [koBlk_at]
  unfold keyRaw
  simp only [row_at, b5_at]
  simp only [b4_at]
  refine congrArg₂ (· * ·) (congrArg₂ (· * ·) rfl (congrArg Ideal.rsqrt (congrArg (· + _) ?_))) rfl
  refine (mean_eq (fun k => MixSpec.proj (hid m c ⟨4 * t.val + b.val, by have := t.isLt; have : cfg0.N = 4 := rfl; omega⟩ s)
    (fun k p => m ((c.tc : Thread nD τ).loc main_arg3) (ix3 0 k p)) ⟨512 + k.val, by omega⟩) h d).trans ?_
  rfl

/-- The values of a point's four prompts. -/
theorem vOut_at (c : Dev nD) (t : Fin cfg0.N) (b : Fin 4) (h : Fin 2) (d : Fin 64) (s : Fin 256) :
    vOut m c t (ix5 b 0 h d s) = GV m c (ix5 ⟨4 * t.val + b.val, by have := t.isLt; have : cfg0.N = 4 := rfl; omega⟩ 0 h d s) := by
  unfold vOut
  rw [voBlk_at, row_at]
  rfl

end Cert.MixIdeal.Val

end
-- ==== Proof.MixOut.lean ====
module

public import proofs.«01_k».proof.Proof.MixKeys
public import Idealize.ShloMosaic.Lib.Pipeline.ValueKit.Point

@[expose] public section

set_option maxRecDepth 16384

noncomputable section

namespace Cert.MixIdeal.Val

open Cert.MixIdeal Cert.MixIdeal.Gen Cert.FfnSpec Cert.MixSpec
open Idealize.ShloMosaic Idealize.ShloMosaic.TcCoe Idealize.ShloMosaic.Tactic Idealize.SL.Sem

variable (m : (ℓ : Loc nD τ sig) → Buf (Elt Ideal) ℓ) (ρ : Dev nD → PrngReg)

/-- The keys after the run. -/
theorem final11 (c : Dev nD) : (dats m 0 c).arrAt 11 cfg0.N = GK m c := by
  refine (dats m 0 c).arrAt_eq_of_covers 11 (GK m c) (by decide +kernel) fun t hf y => ?_
  blk_simp
  rw [after0_11]
  idx_vars y
  obtain rfl : y1 = 0 := Subsingleton.elim _ _
  refine (kOut_at m c t _ _ _ _).trans ?_
  blk_ext [idx t]

/-- The values after the run. -/
theorem final12 (c : Dev nD) : (dats m 0 c).arrAt 12 cfg0.N = GV m c := by
  refine (dats m 0 c).arrAt_eq_of_covers 12 (GV m c) (by decide +kernel) fun t hf y => ?_
  blk_simp
  rw [after0_12]
  idx_vars y
  obtain rfl : y1 = 0 := Subsingleton.elim _ _
  refine (vOut_at m c t _ _ _ _).trans ?_
  blk_ext [idx t]

/-- The run with the keys and the values at their functions of the arguments. -/
theorem run : θ_run defs (onTc (τ := τ) (main (F := Ideal))) ⟨m, fun _ => 0, ρ⟩ fun r => ∀ c : Dev nD,
      r.2.mem ((c.tc : Thread nD τ).loc main_v22_1) = GK m c
      ∧ r.2.mem ((c.tc : Thread nD τ).loc main_v22_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(((dats m 0 c).toRForget_arrAt_iff (w := 11) rfl _ _).mp ((h.1 c).1 11)).trans (final11 m c),
      (((dats m 0 c).toRForget_arrAt_iff (w := 12) rfl _ _).mp ((h.1 c).1 12)).trans (final12 m c),
      ((h.1 c).2 main_arg0 (Pipeline.mem_restRefs_of main_arg0 (by decide) (by decide))).trans (V_main_arg0 m c),
      ((h.1.arr_in c 1 rfl).trans ((A_eq m c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩) (run_quiescent m ρ)

end Cert.MixIdeal.Val

end
-- ==== Proof.MixRef.lean ====
module

public import proofs.«01_k».proof.Proof.Gen.MixRefIdeal.Run
public import proofs.«01_k».proof.Proof.MixSpec
public import Idealize.ShloMosaic.Lib.Pointwise
public import Idealize.ShloMosaic.Lib.Pipeline.Value

@[expose] public section

set_option maxRecDepth 16384

noncomputable section

namespace Cert.MixRefIdeal.Val

open Cert.MixRefIdeal Cert.MixRefIdeal.Gen Cert.MixRefIdeal.Value Cert.FfnSpec Cert.MixSpec
open Idealize.ShloMosaic Idealize.ShloMosaic.TcCoe Idealize.ShloMosaic.Tactic Idealize.ShloMosaic.StableHlo

variable {F : FTy → Type} [FloatOps F]

/-- The normalised, modulated prompt rows. -/
def hidM (m : (ℓ : Loc nD τ sig) → Buf (Elt F) ℓ) (c : Dev nD) : Vec F S16x256x1024 .f32 :=
  addf (mulf (mulf (mulf (m ((c.tc : Thread nD τ).loc main_arg0)) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (m ((c.tc : Thread nD τ).loc main_arg0)) (m ((c.tc : Thread nD τ).loc main_arg0))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (m ((c.tc : Thread nD τ).loc main_arg2)) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] (broadcastInDim S1x1x6144 ![0, 2] bcast_S1x6144_S1x1x6144_0_2 (extractStridedSlice S1x6144 ![8, 0] (m ((c.tc : Thread nD τ).loc main_arg1)) slices_S16x6144_S1x6144_8_0)) slices_S1x1x6144_S1x1x1024_0_0_1024)))) (broadcastInDim S16x256x1024 ![0, 1, 2] bcast_S1x1x1024_S16x256x1024_0_1_2 (extractStridedSlice S1x1x1024 ![0, 0, 0] (broadcastInDim S1x1x6144 ![0, 2] bcast_S1x6144_S1x1x6144_0_2 (extractStridedSlice S1x6144 ![8, 0] (m ((c.tc : Thread nD τ).loc main_arg1)) slices_S16x6144_S1x6144_8_0)) slices_S1x1x6144_S1x1x1024_0_0_0))

/-- Their projections on the mixer's input matrix. -/
def prjM (m : (ℓ : Loc nD τ sig) → Buf (Elt F) ℓ) (c : Dev nD) : Vec F S16x256x2304 .f32 :=
  Host.dotGeneral dot_S16x256x1024_S1024x2304_S16x256x2304_2_0_01_1_n_n none (hidM m c) (shapeCast _ (m ((c.tc : Thread nD τ).loc main_arg3)) shapeCasts_S1x1024x2304_S1024x2304)

/-- The keys of any projections: each head over its root mean square, times the norm's weights. -/
def keysOf (p : Vec F S16x256x2304 .f32) (g : Vec F S1x64 .f32) : Vec F S16x1x2x64x256 .f32 :=
  broadcastInDim S16x1x2x64x256 ![0, 2, 3, 4] bcast_S16x2x64x256_S16x1x2x64x256_0_2_3_4 (transpose S16x2x64x256 [0, 2, 3, 1] (mulf (mulf (shapeCast _ (extractStridedSlice S16x256x128 ![0, 0, 0] (extractStridedSlice S16x256x256 ![0, 0, 512] p slices_S16x256x2304_S16x256x256_0_0_512) slices_S16x256x256_S16x256x128_0_0_0) shapeCasts_S16x256x128_S16x256x2x64) (broadcastInDim S16x256x2x64 ![0, 1, 2, 3] bcast_S16x256x2x1_S16x256x2x64_0_1_2_3 (Host.rsqrt (addf (Host.divf (broadcastInDim S16x256x2x1 ![0, 1, 2] bcast_S16x256x2_S16x256x2x1_0_1_2 (Host.reduceAdd (mulf (shapeCast _ (extractStridedSlice S16x256x128 ![0, 0, 0] (extractStridedSlice S16x256x256 ![0, 0, 512] p slices_S16x256x2304_S16x256x256_0_0_512) slices_S16x256x256_S16x256x128_0_0_0) shapeCasts_S16x256x128_S16x256x2x64) (shapeCast _ (extractStridedSlice S16x256x128 ![0, 0, 0] (extractStridedSlice S16x256x256 ![0, 0, 512] p slices_S16x256x2304_S16x256x256_0_0_512) slices_S16x256x256_S16x256x128_0_0_0) shapeCasts_S16x256x128_S16x256x2x64)) (constant S_ .f32 0x00000000#32) reducesTo_S16x256x2x64_S16x256x2_d3 h_S_)) (broadcastInDim S16x256x2x1 ![] bcast_S_S16x256x2x1 (constant S_ .f32 0x42800000#32))) (broadcastInDim S16x256x2x1 ![] bcast_S_S16x256x2x1 (constant S_ .f32 0x358637BD#32)))))) (broadcastInDim S16x256x2x64 ![0, 1, 2, 3] bcast_S1x1x1x64_S16x256x2x64_0_1_2_3 (broadcastInDim S1x1x1x64 ![3] bcast_S64_S1x1x1x64_3 (shapeCast _ g shapeCasts_S1x64_S64)))) transposes_S16x256x2x64_S16x2x64x256_0_2_3_1)

/-- The values of any projections. -/
def valsOf (p : Vec F S16x256x2304 .f32) : Vec F S16x1x2x64x256 .f32 :=
  broadcastInDim S16x1x2x64x256 ![0, 2, 3, 4] bcast_S16x2x64x256_S16x1x2x64x256_0_2_3_4 (transpose S16x2x64x256 [0, 2, 3, 1] (shapeCast _ (extractStridedSlice S16x256x128 ![0, 0, 128] (extractStridedSlice S16x256x256 ![0, 0, 512] p slices_S16x256x2304_S16x256x256_0_0_512) slices_S16x256x256_S16x256x128_0_0_128) shapeCasts_S16x256x128_S16x256x2x64) transposes_S16x256x2x64_S16x2x64x256_0_2_3_1)

set_option maxHeartbeats 1000000 in
/-- The reference's keys through these. -/
theorem keys_eq (m : (ℓ : Loc nD τ sig) → Buf (Elt F) ℓ) (c : Dev nD) : res_main_v50 m c = keysOf (prjM m c) (m ((c.tc : Thread nD τ).loc main_arg5)) := by
  unfold res_main_v50; rfl

/-- The input matrix without its leading unit axis. -/
theorem castW_at (w : S1x1024x2304.Idx → EReal) (k : Fin 1024) (p : Fin 2304) :
    shapeCast S1024x2304 w shapeCasts_S1x1024x2304_S1024x2304 (ix2 k p) = w (ix3 0 k p) :=
  shapeCast_apply w _ _ _ (by
    rw [Shape.rowMajor_val_three, Shape.rowMajor_val_two]
    show (0 * 1024 + k.val) * 2304 + p.val = k.val * 2304 + p.val
    omega)

/-- One row of the normalised, modulated prompt activations. -/
theorem hidM_at (m : (ℓ : Loc nD τ sig) → Buf (Elt Ideal) ℓ) (c : Dev nD) (a : Fin 16) (b : Fin 256) (k : Fin 1024) :
    hidM m c (ix3 a b k) = hidRow (fun k => m ((c.tc : Thread nD τ).loc main_arg0) (ix3 a b k))
      (fun k => m ((c.tc : Thread nD τ).loc main_arg2) (ix2 0 k))
      (fun k => m ((c.tc : Thread nD τ).loc main_arg1) (ix2 8 ⟨1024 + k.val, by omega⟩))
      (fun k => m ((c.tc : Thread nD τ).loc main_arg1) (ix2 8 ⟨k.val, by omega⟩)) k := by
  pointwise [hidM]
  rfl

/-- The projections of any rows, read at an index. -/
theorem dot_at (h : FVec Ideal S16x256x1024 .f32) (w : FVec Ideal S1024x2304 .f32) (a : Fin 16) (b : Fin 256) (p : Fin 2304) :
    Host.dotGeneral dot_S16x256x1024_S1024x2304_S16x256x2304_2_0_01_1_n_n none h w (ix3 a b p)
      = ∑ k : Fin 1024, h (ix3 a b k) * w (ix2 k p) := by
  pointwise []

/-- The projections of one prompt row. -/
theorem prjM_at (m : (ℓ : Loc nD τ sig) → Buf (Elt Ideal) ℓ) (c : Dev nD) (a : Fin 16) (b : Fin 256) (p : Fin 2304) :
    prjM m c (ix3 a b p) = MixSpec.proj (fun k => hidM m c (ix3 a b k))
      (fun k p => m ((c.tc : Thread nD τ).loc main_arg3) (ix3 0 k p)) p := by
  unfold prjM MixSpec.proj
  rw [dot_at]
  refine Finset.sum_congr rfl fun k _ => ?_
  rw [castW_at]

/-- The keys of any projections, read at an index. -/
theorem keysOf_at (p : FVec Ideal S16x256x2304 .f32) (g : FVec Ideal S1x64 .f32) (a : Fin 16) (n : Fin 2) (d : Fin 64) (s : Fin 256) :
    keysOf (F := Ideal) p g (ix5 a 0 n d s) = p (ix3 a s ⟨512 + (n.val * 64 + d.val), by omega⟩)
      * Ideal.rsqrt (Ideal.div (∑ e : Fin 64, p (ix3 a s ⟨512 + (n.val * 64 + e.val), by omega⟩) * p (ix3 a s ⟨512 + (n.val * 64 + e.val), by omega⟩))
          (Ideal.ofBits FTy.f32 1115684864#32) + Ideal.ofBits FTy.f32 897988541#32) * g (ix2 0 d) := by
  pointwise [keysOf]

/-- The values of any projections, read at an index. -/
theorem valsOf_at (p : FVec Ideal S16x256x2304 .f32) (a : Fin 16) (n : Fin 2) (d : Fin 64) (s : Fin 256) :
    valsOf (F := Ideal) p (ix5 a 0 n d s) = p (ix3 a s ⟨640 + (n.val * 64 + d.val), by omega⟩) := by
  have e : 512 + (128 + (n.val * 64 + d.val)) = 640 + (n.val * 64 + d.val) := by omega
  pointwise [valsOf]
  simp only [e]

end Cert.MixRefIdeal.Val

end
-- ==== Proof.lean ====
/- The proof of the certificate's claims. The frame of the program as printed is `Proof/BitsDat.lean`; the idealized program's
   run, with what its two results hold, is `Proof/FfnDat.lean` and `Proof/FfnOut.lean`; the reference's results are read
   in `Proof/FfnRefOut.lean`. Both sides are the same function of one row of the activations (`Proof/FfnSpec.lean`).
   The prompt's mixer call likewise: `Proof/BitsMixDat.lean`, `Proof/MixDat.lean`, `Proof/MixOut.lean`, `Proof/MixRef.lean`,
   `Proof/MixSpec.lean`. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.BitsDat
public import proofs.«01_k».proof.Proof.Gen.Mix
public import proofs.«01_k».proof.Proof.Gen.Mix.Skeleton
public import proofs.«01_k».proof.Proof.Gen.Mix.Loops
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Loops
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.FfnOut
public import proofs.«01_k».proof.Proof.FfnRefOut
public import proofs.«01_k».proof.Proof.BitsMixDat
public import proofs.«01_k».proof.Proof.MixOut
public import proofs.«01_k».proof.Proof.MixRef
public import Idealize.ShloMosaic.Adequacy
public import Idealize.ShloMosaic.Init

@[expose] public section

set_option maxRecDepth 16384

noncomputable section

namespace Cert.Proof

open Idealize.ShloMosaic Idealize.SL.Sem Cert.Ffn Idealize.ShloMosaic.TcCoe

/-- The reference's frame: its run leaves the arguments, and it declares no semaphore. -/
theorem ref_frame : Cert.quiescent_FfnRefIdeal (hFfnRefIdeal := Cert.FfnRefIdeal.Gen.facts) := fun m ρ _ =>
  (θ_run Cert.FfnRefIdeal.defs _ _).mono
    (fun _ h => ⟨fun c => (h c).2.2, sem_eq_zero_of_no_sems (by decide) _⟩) (Cert.FfnRefIdeal.Value.run m ρ)

/-- The prompt result of the reference is the kernel's, given equal arguments. -/
theorem prompt_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h0 : m' ((c.tc : Thread Cert.FfnRefIdeal.nD Cert.FfnRefIdeal.τ).loc Cert.FfnRefIdeal.main_arg0)
      = m ((c.tc : Thread Cert.FfnIdeal.nD Cert.FfnIdeal.τ).loc Cert.FfnIdeal.main_arg0))
    (h2 : m' ((c.tc : Thread Cert.FfnRefIdeal.nD Cert.FfnRefIdeal.τ).loc Cert.FfnRefIdeal.main_arg2)
      = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3)
      = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4)
      = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5)
      = m ((c.tc : Thread Cert.FfnIdeal.nD Cert.FfnIdeal.τ).loc Cert.FfnIdeal.main_arg5)) :
    Cert.FfnRefIdeal.Value.res_main_v78 m' c = Cert.FfnIdeal.Val.GP m c := by
  funext j
  obtain ⟨r, q, rfl⟩ : ∃ (r : Fin 4096) (q : Fin 1024), j = ix2 r q := ⟨j 0, j 1, eq_ix2 j⟩
  rw [Cert.FfnRefIdeal.Val.v78_at, h0, h2, h3, h4, h5]
  rfl

/-- The sample result of the reference is the kernel's, given equal arguments. -/
theorem sample_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h1 : m' ((c.tc : Thread Cert.FfnRefIdeal.nD Cert.FfnRefIdeal.τ).loc Cert.FfnRefIdeal.main_arg1)
      = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2)
      = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3)
      = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4)
      = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5)
      = m ((c.tc : Thread Cert.FfnIdeal.nD Cert.FfnIdeal.τ).loc Cert.FfnIdeal.main_arg5)) :
    Cert.FfnRefIdeal.Value.res_main_v79 m' c = Cert.FfnIdeal.Val.GS m c := by
  funext j
  obtain ⟨r, q, rfl⟩ : ∃ (r : Fin 8192) (q : Fin 1024), j = ix2 r q := ⟨j 0, j 1, eq_ix2 j⟩
  rw [Cert.FfnRefIdeal.Val.v79_at, h1, h2, h3, h4, h5]
  rfl

/-- The value claim: both runs end with the feed-forward of every row. -/
theorem value : Cert.algebraic_FfnIdeal_FfnRefIdeal (hFfnIdeal := Cert.FfnIdeal.Gen.facts)
    (hFfnRefIdeal := Cert.FfnRefIdeal.Gen.facts) := fun m g m' g' _ hm =>
  ⟨fun c => Cert.FfnIdeal.Val.GP m c, fun c => Cert.FfnIdeal.Val.GS m c, Cert.FfnIdeal.Val.run m g,
    (θ_run Cert.FfnRefIdeal.defs _ _).mono
      (fun _ h c => ⟨(h c).1.trans (prompt_eq m m' c (hm c).1 (hm c).2.2.1 (hm c).2.2.2.1 (hm c).2.2.2.2.1 (hm c).2.2.2.2.2),
        (h c).2.1.trans (sample_eq m m' c (hm c).2.1 (hm c).2.2.1 (hm c).2.2.2.1 (hm c).2.2.2.2.1 (hm c).2.2.2.2.2),
        (h c).2.2⟩) (Cert.FfnRefIdeal.Value.run m' g')⟩

/-- The mixer's reference's frame: its run leaves the arguments, and it declares no semaphore. -/
theorem mix_ref_frame : Cert.quiescent_MixRefIdeal (hMixRefIdeal := Cert.MixRefIdeal.Gen.facts) := fun m ρ _ =>
  (θ_run Cert.MixRefIdeal.defs _ _).mono
    (fun _ h => ⟨fun c => (h c).2.2, sem_eq_zero_of_no_sems (by decide) _⟩) (Cert.MixRefIdeal.Value.run m ρ)

/-- The reference's keys are the kernel's, given equal arguments. -/
theorem keys_eq (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ)
    (c : Dev Cert.MixIdeal.nD)
    (h0 : m' ((c.tc : Thread Cert.MixRefIdeal.nD Cert.MixRefIdeal.τ).loc Cert.MixRefIdeal.main_arg0)
      = m ((c.tc : Thread Cert.MixIdeal.nD Cert.MixIdeal.τ).loc Cert.MixIdeal.main_arg0))
    (h1 : m' ((c.tc : Thread Cert.MixRefIdeal.nD Cert.MixRefIdeal.τ).loc Cert.MixRefIdeal.main_arg1)
      = m ((c.tc : Thread Cert.MixIdeal.nD Cert.MixIdeal.τ).loc Cert.MixIdeal.main_arg1))
    (h2 : m' ((c.tc : Thread Cert.MixRefIdeal.nD Cert.MixRefIdeal.τ).loc Cert.MixRefIdeal.main_arg2)
      = m ((c.tc : Thread Cert.MixIdeal.nD Cert.MixIdeal.τ).loc Cert.MixIdeal.main_arg2))
    (h3 : m' ((c.tc : Thread Cert.MixRefIdeal.nD Cert.MixRefIdeal.τ).loc Cert.MixRefIdeal.main_arg3)
      = m ((c.tc : Thread Cert.MixIdeal.nD Cert.MixIdeal.τ).loc Cert.MixIdeal.main_arg3))
    (h5 : m' ((c.tc : Thread Cert.MixRefIdeal.nD Cert.MixRefIdeal.τ).loc Cert.MixRefIdeal.main_arg5)
      = m ((c.tc : Thread Cert.MixIdeal.nD Cert.MixIdeal.τ).loc Cert.MixIdeal.main_arg5)) :
    Cert.MixRefIdeal.Value.res_main_v50 m' c = Cert.MixIdeal.Val.GK m c := by
  funext j
  obtain ⟨a, z, n, d, s, rfl⟩ : ∃ (a : Fin 16) (z : Fin 1) (n : Fin 2) (d : Fin 64) (s : Fin 256), j = ix5 a z n d s :=
    ⟨j 0, j 1, j 2, j 3, j 4, eq_ix5 j⟩
  obtain rfl : z = 0 := Subsingleton.elim _ _
  rw [Cert.MixRefIdeal.Val.keys_eq, Cert.MixRefIdeal.Val.keysOf_at]
  simp only [Cert.MixRefIdeal.Val.prjM_at, Cert.MixRefIdeal.Val.hidM_at]
  rw [h0, h1, h2, h3, h5]
  rfl

/-- The reference's values are the kernel's, given equal arguments. -/
theorem vals_eq (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ)
    (c : Dev Cert.MixIdeal.nD)
    (h0 : m' ((c.tc : Thread Cert.MixRefIdeal.nD Cert.MixRefIdeal.τ).loc Cert.MixRefIdeal.main_arg0)
      = m ((c.tc : Thread Cert.MixIdeal.nD Cert.MixIdeal.τ).loc Cert.MixIdeal.main_arg0))
    (h1 : m' ((c.tc : Thread Cert.MixRefIdeal.nD Cert.MixRefIdeal.τ).loc Cert.MixRefIdeal.main_arg1)
      = m ((c.tc : Thread Cert.MixIdeal.nD Cert.MixIdeal.τ).loc Cert.MixIdeal.main_arg1))
    (h2 : m' ((c.tc : Thread Cert.MixRefIdeal.nD Cert.MixRefIdeal.τ).loc Cert.MixRefIdeal.main_arg2)
      = m ((c.tc : Thread Cert.MixIdeal.nD Cert.MixIdeal.τ).loc Cert.MixIdeal.main_arg2))
    (h3 : m' ((c.tc : Thread Cert.MixRefIdeal.nD Cert.MixRefIdeal.τ).loc Cert.MixRefIdeal.main_arg3)
      = m ((c.tc : Thread Cert.MixIdeal.nD Cert.MixIdeal.τ).loc Cert.MixIdeal.main_arg3)) :
    Cert.MixRefIdeal.Val.valsOf (Cert.MixRefIdeal.Val.prjM m' c) = Cert.MixIdeal.Val.GV m c := by
  funext j
  obtain ⟨a, z, n, d, s, rfl⟩ : ∃ (a : Fin 16) (z : Fin 1) (n : Fin 2) (d : Fin 64) (s : Fin 256), j = ix5 a z n d s :=
    ⟨j 0, j 1, j 2, j 3, j 4, eq_ix5 j⟩
  obtain rfl : z = 0 := Subsingleton.elim _ _
  rw [Cert.MixRefIdeal.Val.valsOf_at]
  simp only [Cert.MixRefIdeal.Val.prjM_at, Cert.MixRefIdeal.Val.hidM_at]
  rw [h0, h1, h2, h3]
  rfl

/-- The mixer's value claim: both runs end with the new keys and values of every row. -/
theorem mix_value : Cert.algebraic_MixIdeal_MixRefIdeal (hMixIdeal := Cert.MixIdeal.Gen.facts)
    (hMixRefIdeal := Cert.MixRefIdeal.Gen.facts) := fun m g m' g' _ hm =>
  ⟨fun c => Cert.MixIdeal.Val.GK m c, fun c => Cert.MixIdeal.Val.GV m c, Cert.MixIdeal.Val.run m g,
    (θ_run Cert.MixRefIdeal.defs _ _).mono
      (fun _ h c => ⟨(h c).1.trans (keys_eq m m' c (hm c).1 (hm c).2.1 (hm c).2.2.1 (hm c).2.2.2.1 (hm c).2.2.2.2.2.1),
        (h c).2.1.trans (vals_eq m m' c (hm c).1 (hm c).2.1 (hm c).2.2.1 (hm c).2.2.2.1),
        (h c).2.2⟩) (Cert.MixRefIdeal.Value.run m' g')⟩

theorem claim : Cert.Claim := ⟨Cert.Ffn.Gen.facts, Cert.FfnIdeal.Gen.facts, Cert.FfnRefIdeal.Gen.facts,
  Cert.Mix.Gen.facts, Cert.MixIdeal.Gen.facts, Cert.MixRefIdeal.Gen.facts,
  fun m ρ _ => Cert.Ffn.Val.frame m ρ, fun m ρ _ => Cert.FfnIdeal.Val.frame m ρ, ref_frame,
  fun m ρ _ => Cert.Mix.Val.frame m ρ, fun m ρ _ => Cert.MixIdeal.Val.frame m ρ, mix_ref_frame,
  trivial, value, trivial, mix_value⟩

end Cert.Proof

end
